-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![8192, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S16x2x256x256 : Shape := ⟨4, ![16, 2, 256, 256]⟩
abbrev S15 : Shape := ⟨1, ![15]⟩
abbrev S_ : Shape := ⟨0, ![]⟩
abbrev S256x256 : Shape := ⟨2, ![256, 256]⟩
abbrev S1x1x256x256 : Shape := ⟨4, ![1, 1, 256, 256]⟩
abbrev S1 : Shape := ⟨1, ![1]⟩
abbrev S1x2x256x256 : Shape := ⟨4, ![1, 2, 256, 256]⟩
abbrev S2x256x256 : Shape := ⟨3, ![2, 256, 256]⟩
abbrev S512x512 : Shape := ⟨2, ![512, 512]⟩

abbrev nBuf : Space → Nat
  | .hbm => 8
  | .vmem => 13
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S16x2x256x256, .bf16⟩
  | .local _ .vmem, ⟨9, _⟩ => ⟨S16x2x256x256, .bf16⟩
  | .local _ .vmem, ⟨10, _⟩ => ⟨S512x256, .f32⟩
  | .local _ .vmem, ⟨11, _⟩ => ⟨S512x256, .bf16⟩
  | .local _ .vmem, ⟨12, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 3 → Bool
  | ⟨0, _⟩ => true
  | ⟨1, _⟩ => true
  | ⟨2, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 3 68 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_53 : BitVec 32 := 1#32
  let v65 : BitVec 32 := Scalar.muli v25 c1_i32_53
  let v66 : BitVec 32 := Scalar.addi c0_i32_54 v65
  v66.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_65 : BitVec 32 := 1#32
  let v75 : BitVec 32 := Scalar.muli v14 c1_i32_65
  let v76 : BitVec 32 := Scalar.addi c0_i32_66 v75
  v76.toNat
def k0_dev5 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_133 : BitVec 32 := 1#32
  let v125 : BitVec 32 := Scalar.muli v25 c1_i32_133
  let v126 : BitVec 32 := Scalar.addi c0_i32_134 v125
  v126.toNat
def k0_dev6 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_145 : BitVec 32 := 1#32
  let v135 : BitVec 32 := Scalar.muli v14 c1_i32_145
  let v136 : BitVec 32 := Scalar.addi c0_i32_146 v135
  v136.toNat
def k0_dev7 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_236 : BitVec 32 := 1#32
  let v203 : BitVec 32 := Scalar.muli v25 c1_i32_236
  let v204 : BitVec 32 := Scalar.addi c0_i32_237 v203
  v204.toNat
def k0_dev8 (d0 : Dev nD) : Nat :=
  let c0_i32_249 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_248 : BitVec 32 := 1#32
  let v213 : BitVec 32 := Scalar.muli v14 c1_i32_248
  let v214 : BitVec 32 := Scalar.addi c0_i32_249 v213
  v214.toNat
def k0_dev9 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_338 : BitVec 32 := 1#32
  let v281 : BitVec 32 := Scalar.muli v25 c1_i32_338
  let v282 : BitVec 32 := Scalar.addi c0_i32_339 v281
  v282.toNat
def k0_dev10 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_350 : BitVec 32 := 1#32
  let v291 : BitVec 32 := Scalar.muli v14 c1_i32_350
  let v292 : BitVec 32 := Scalar.addi c0_i32_351 v291
  v292.toNat
def k0_dev11 (d0 : Dev nD) : Nat :=
  let c0_i32_441 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_440 : BitVec 32 := 1#32
  let v359 : BitVec 32 := Scalar.muli v25 c1_i32_440
  let v360 : BitVec 32 := Scalar.addi c0_i32_441 v359
  v360.toNat
def k0_dev12 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_452 : BitVec 32 := 1#32
  let v369 : BitVec 32 := Scalar.muli v14 c1_i32_452
  let v370 : BitVec 32 := Scalar.addi c0_i32_453 v369
  v370.toNat
def k0_dev13 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_542 : BitVec 32 := 1#32
  let v437 : BitVec 32 := Scalar.muli v25 c1_i32_542
  let v438 : BitVec 32 := Scalar.addi c0_i32_543 v437
  v438.toNat
def k0_dev14 (d0 : Dev nD) : Nat :=
  let c0_i32_555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_554 : BitVec 32 := 1#32
  let v447 : BitVec 32 := Scalar.muli v14 c1_i32_554
  let v448 : BitVec 32 := Scalar.addi c0_i32_555 v447
  v448.toNat
def k0_dev15 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_644 : BitVec 32 := 1#32
  let v515 : BitVec 32 := Scalar.muli v25 c1_i32_644
  let v516 : BitVec 32 := Scalar.addi c0_i32_645 v515
  v516.toNat
def k0_dev16 (d0 : Dev nD) : Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_656 : BitVec 32 := 1#32
  let v525 : BitVec 32 := Scalar.muli v14 c1_i32_656
  let v526 : BitVec 32 := Scalar.addi c0_i32_657 v525
  v526.toNat
def k0_dev17 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_746 : BitVec 32 := 1#32
  let v593 : BitVec 32 := Scalar.muli v25 c1_i32_746
  let v594 : BitVec 32 := Scalar.addi c0_i32_747 v593
  v594.toNat
def k0_dev18 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_758 : BitVec 32 := 1#32
  let v603 : BitVec 32 := Scalar.muli v14 c1_i32_758
  let v604 : BitVec 32 := Scalar.addi c0_i32_759 v603
  v604.toNat
def k0_dev19 (d0 : Dev nD) : Nat :=
  let c0_i32_849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_848 : BitVec 32 := 1#32
  let v671 : BitVec 32 := Scalar.muli v25 c1_i32_848
  let v672 : BitVec 32 := Scalar.addi c0_i32_849 v671
  v672.toNat
def k0_dev20 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_860 : BitVec 32 := 1#32
  let v681 : BitVec 32 := Scalar.muli v14 c1_i32_860
  let v682 : BitVec 32 := Scalar.addi c0_i32_861 v681
  v682.toNat
def k0_dev21 (d0 : Dev nD) : Nat :=
  let c0_i32_951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_950 : BitVec 32 := 1#32
  let v749 : BitVec 32 := Scalar.muli v25 c1_i32_950
  let v750 : BitVec 32 := Scalar.addi c0_i32_951 v749
  v750.toNat
def k0_dev22 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_962 : BitVec 32 := 1#32
  let v759 : BitVec 32 := Scalar.muli v14 c1_i32_962
  let v760 : BitVec 32 := Scalar.addi c0_i32_963 v759
  v760.toNat
def k0_dev23 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1052 : BitVec 32 := 1#32
  let v827 : BitVec 32 := Scalar.muli v25 c1_i32_1052
  let v828 : BitVec 32 := Scalar.addi c0_i32_1053 v827
  v828.toNat
def k0_dev24 (d0 : Dev nD) : Nat :=
  let c0_i32_1065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1064 : BitVec 32 := 1#32
  let v837 : BitVec 32 := Scalar.muli v14 c1_i32_1064
  let v838 : BitVec 32 := Scalar.addi c0_i32_1065 v837
  v838.toNat
def k0_dev25 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1154 : BitVec 32 := 1#32
  let v905 : BitVec 32 := Scalar.muli v25 c1_i32_1154
  let v906 : BitVec 32 := Scalar.addi c0_i32_1155 v905
  v906.toNat
def k0_dev26 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1166 : BitVec 32 := 1#32
  let v915 : BitVec 32 := Scalar.muli v14 c1_i32_1166
  let v916 : BitVec 32 := Scalar.addi c0_i32_1167 v915
  v916.toNat
def k0_dev27 (d0 : Dev nD) : Nat :=
  let c0_i32_1257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1256 : BitVec 32 := 1#32
  let v983 : BitVec 32 := Scalar.muli v25 c1_i32_1256
  let v984 : BitVec 32 := Scalar.addi c0_i32_1257 v983
  v984.toNat
def k0_dev28 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1268 : BitVec 32 := 1#32
  let v993 : BitVec 32 := Scalar.muli v14 c1_i32_1268
  let v994 : BitVec 32 := Scalar.addi c0_i32_1269 v993
  v994.toNat
def k0_dev29 (d0 : Dev nD) : Nat :=
  let c0_i32_1359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1358 : BitVec 32 := 1#32
  let v1061 : BitVec 32 := Scalar.muli v25 c1_i32_1358
  let v1062 : BitVec 32 := Scalar.addi c0_i32_1359 v1061
  v1062.toNat
def k0_dev30 (d0 : Dev nD) : Nat :=
  let c0_i32_1371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1370 : BitVec 32 := 1#32
  let v1071 : BitVec 32 := Scalar.muli v14 c1_i32_1370
  let v1072 : BitVec 32 := Scalar.addi c0_i32_1371 v1071
  v1072.toNat
def k0_dev31 (d0 : Dev nD) : Nat :=
  let c0_i32_1461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1460 : BitVec 32 := 1#32
  let v1139 : BitVec 32 := Scalar.muli v25 c1_i32_1460
  let v1140 : BitVec 32 := Scalar.addi c0_i32_1461 v1139
  v1140.toNat
def k0_dev32 (d0 : Dev nD) : Nat :=
  let c0_i32_1473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1472 : BitVec 32 := 1#32
  let v1149 : BitVec 32 := Scalar.muli v14 c1_i32_1472
  let v1150 : BitVec 32 := Scalar.addi c0_i32_1473 v1149
  v1150.toNat
def k0_dev33 (d0 : Dev nD) : Nat :=
  let c0_i32_1594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1593 : BitVec 32 := 1#32
  let v1247 : BitVec 32 := Scalar.muli v14 c1_i32_1593
  let v1248 : BitVec 32 := Scalar.addi c0_i32_1594 v1247
  v1248.toNat
def k0_dev34 (d0 : Dev nD) : Nat :=
  let c0_i32_1597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1596 : BitVec 32 := 1#32
  let v1249 : BitVec 32 := Scalar.muli v25 c1_i32_1596
  let v1250 : BitVec 32 := Scalar.addi c0_i32_1597 v1249
  v1250.toNat
def k0_dev35 (d0 : Dev nD) : Nat :=
  let c0_i32_1639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1638 : BitVec 32 := 1#32
  let v1284 : BitVec 32 := Scalar.muli v25 c1_i32_1638
  let v1285 : BitVec 32 := Scalar.addi c0_i32_1639 v1284
  v1285.toNat
def k0_dev36 (d0 : Dev nD) : Nat :=
  let c0_i32_1651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1650 : BitVec 32 := 1#32
  let v1294 : BitVec 32 := Scalar.muli v14 c1_i32_1650
  let v1295 : BitVec 32 := Scalar.addi c0_i32_1651 v1294
  v1295.toNat
def k0_dev37 (d0 : Dev nD) : Nat :=
  let c0_i32_1720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1719 : BitVec 32 := 1#32
  let v1344 : BitVec 32 := Scalar.muli v25 c1_i32_1719
  let v1345 : BitVec 32 := Scalar.addi c0_i32_1720 v1344
  v1345.toNat
def k0_dev38 (d0 : Dev nD) : Nat :=
  let c0_i32_1732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1731 : BitVec 32 := 1#32
  let v1354 : BitVec 32 := Scalar.muli v14 c1_i32_1731
  let v1355 : BitVec 32 := Scalar.addi c0_i32_1732 v1354
  v1355.toNat
def k0_dev39 (d0 : Dev nD) : Nat :=
  let c0_i32_1824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1823 : BitVec 32 := 1#32
  let v1422 : BitVec 32 := Scalar.muli v25 c1_i32_1823
  let v1423 : BitVec 32 := Scalar.addi c0_i32_1824 v1422
  v1423.toNat
def k0_dev40 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1835 : BitVec 32 := 1#32
  let v1432 : BitVec 32 := Scalar.muli v14 c1_i32_1835
  let v1433 : BitVec 32 := Scalar.addi c0_i32_1836 v1432
  v1433.toNat
def k0_dev41 (d0 : Dev nD) : Nat :=
  let c0_i32_1928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1927 : BitVec 32 := 1#32
  let v1500 : BitVec 32 := Scalar.muli v25 c1_i32_1927
  let v1501 : BitVec 32 := Scalar.addi c0_i32_1928 v1500
  v1501.toNat
def k0_dev42 (d0 : Dev nD) : Nat :=
  let c0_i32_1940 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1939 : BitVec 32 := 1#32
  let v1510 : BitVec 32 := Scalar.muli v14 c1_i32_1939
  let v1511 : BitVec 32 := Scalar.addi c0_i32_1940 v1510
  v1511.toNat
def k0_dev43 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2031 : BitVec 32 := 1#32
  let v1578 : BitVec 32 := Scalar.muli v25 c1_i32_2031
  let v1579 : BitVec 32 := Scalar.addi c0_i32_2032 v1578
  v1579.toNat
def k0_dev44 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2043 : BitVec 32 := 1#32
  let v1588 : BitVec 32 := Scalar.muli v14 c1_i32_2043
  let v1589 : BitVec 32 := Scalar.addi c0_i32_2044 v1588
  v1589.toNat
def k0_dev45 (d0 : Dev nD) : Nat :=
  let c0_i32_2136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2135 : BitVec 32 := 1#32
  let v1656 : BitVec 32 := Scalar.muli v25 c1_i32_2135
  let v1657 : BitVec 32 := Scalar.addi c0_i32_2136 v1656
  v1657.toNat
def k0_dev46 (d0 : Dev nD) : Nat :=
  let c0_i32_2148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2147 : BitVec 32 := 1#32
  let v1666 : BitVec 32 := Scalar.muli v14 c1_i32_2147
  let v1667 : BitVec 32 := Scalar.addi c0_i32_2148 v1666
  v1667.toNat
def k0_dev47 (d0 : Dev nD) : Nat :=
  let c0_i32_2240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2239 : BitVec 32 := 1#32
  let v1734 : BitVec 32 := Scalar.muli v25 c1_i32_2239
  let v1735 : BitVec 32 := Scalar.addi c0_i32_2240 v1734
  v1735.toNat
def k0_dev48 (d0 : Dev nD) : Nat :=
  let c0_i32_2252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2251 : BitVec 32 := 1#32
  let v1744 : BitVec 32 := Scalar.muli v14 c1_i32_2251
  let v1745 : BitVec 32 := Scalar.addi c0_i32_2252 v1744
  v1745.toNat
def k0_dev49 (d0 : Dev nD) : Nat :=
  let c0_i32_2344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2343 : BitVec 32 := 1#32
  let v1812 : BitVec 32 := Scalar.muli v25 c1_i32_2343
  let v1813 : BitVec 32 := Scalar.addi c0_i32_2344 v1812
  v1813.toNat
def k0_dev50 (d0 : Dev nD) : Nat :=
  let c0_i32_2356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2355 : BitVec 32 := 1#32
  let v1822 : BitVec 32 := Scalar.muli v14 c1_i32_2355
  let v1823 : BitVec 32 := Scalar.addi c0_i32_2356 v1822
  v1823.toNat
def k0_dev51 (d0 : Dev nD) : Nat :=
  let c0_i32_2448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2447 : BitVec 32 := 1#32
  let v1890 : BitVec 32 := Scalar.muli v25 c1_i32_2447
  let v1891 : BitVec 32 := Scalar.addi c0_i32_2448 v1890
  v1891.toNat
def k0_dev52 (d0 : Dev nD) : Nat :=
  let c0_i32_2460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2459 : BitVec 32 := 1#32
  let v1900 : BitVec 32 := Scalar.muli v14 c1_i32_2459
  let v1901 : BitVec 32 := Scalar.addi c0_i32_2460 v1900
  v1901.toNat
def k0_dev53 (d0 : Dev nD) : Nat :=
  let c0_i32_2552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2551 : BitVec 32 := 1#32
  let v1968 : BitVec 32 := Scalar.muli v25 c1_i32_2551
  let v1969 : BitVec 32 := Scalar.addi c0_i32_2552 v1968
  v1969.toNat
def k0_dev54 (d0 : Dev nD) : Nat :=
  let c0_i32_2564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2563 : BitVec 32 := 1#32
  let v1978 : BitVec 32 := Scalar.muli v14 c1_i32_2563
  let v1979 : BitVec 32 := Scalar.addi c0_i32_2564 v1978
  v1979.toNat
def k0_dev55 (d0 : Dev nD) : Nat :=
  let c0_i32_2656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2655 : BitVec 32 := 1#32
  let v2046 : BitVec 32 := Scalar.muli v25 c1_i32_2655
  let v2047 : BitVec 32 := Scalar.addi c0_i32_2656 v2046
  v2047.toNat
def k0_dev56 (d0 : Dev nD) : Nat :=
  let c0_i32_2668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2667 : BitVec 32 := 1#32
  let v2056 : BitVec 32 := Scalar.muli v14 c1_i32_2667
  let v2057 : BitVec 32 := Scalar.addi c0_i32_2668 v2056
  v2057.toNat
def k0_dev57 (d0 : Dev nD) : Nat :=
  let c0_i32_2760 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2759 : BitVec 32 := 1#32
  let v2124 : BitVec 32 := Scalar.muli v25 c1_i32_2759
  let v2125 : BitVec 32 := Scalar.addi c0_i32_2760 v2124
  v2125.toNat
def k0_dev58 (d0 : Dev nD) : Nat :=
  let c0_i32_2772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2771 : BitVec 32 := 1#32
  let v2134 : BitVec 32 := Scalar.muli v14 c1_i32_2771
  let v2135 : BitVec 32 := Scalar.addi c0_i32_2772 v2134
  v2135.toNat
def k0_dev59 (d0 : Dev nD) : Nat :=
  let c0_i32_2864 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2863 : BitVec 32 := 1#32
  let v2202 : BitVec 32 := Scalar.muli v25 c1_i32_2863
  let v2203 : BitVec 32 := Scalar.addi c0_i32_2864 v2202
  v2203.toNat
def k0_dev60 (d0 : Dev nD) : Nat :=
  let c0_i32_2876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2875 : BitVec 32 := 1#32
  let v2212 : BitVec 32 := Scalar.muli v14 c1_i32_2875
  let v2213 : BitVec 32 := Scalar.addi c0_i32_2876 v2212
  v2213.toNat
def k0_dev61 (d0 : Dev nD) : Nat :=
  let c0_i32_2968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2967 : BitVec 32 := 1#32
  let v2280 : BitVec 32 := Scalar.muli v25 c1_i32_2967
  let v2281 : BitVec 32 := Scalar.addi c0_i32_2968 v2280
  v2281.toNat
def k0_dev62 (d0 : Dev nD) : Nat :=
  let c0_i32_2980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2979 : BitVec 32 := 1#32
  let v2290 : BitVec 32 := Scalar.muli v14 c1_i32_2979
  let v2291 : BitVec 32 := Scalar.addi c0_i32_2980 v2290
  v2291.toNat
def k0_dev63 (d0 : Dev nD) : Nat :=
  let c0_i32_3072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3071 : BitVec 32 := 1#32
  let v2358 : BitVec 32 := Scalar.muli v25 c1_i32_3071
  let v2359 : BitVec 32 := Scalar.addi c0_i32_3072 v2358
  v2359.toNat
def k0_dev64 (d0 : Dev nD) : Nat :=
  let c0_i32_3084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3083 : BitVec 32 := 1#32
  let v2368 : BitVec 32 := Scalar.muli v14 c1_i32_3083
  let v2369 : BitVec 32 := Scalar.addi c0_i32_3084 v2368
  v2369.toNat
def k0_dev65 (d0 : Dev nD) : Nat :=
  let c0_i32_3207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3206 : BitVec 32 := 1#32
  let v2466 : BitVec 32 := Scalar.muli v14 c1_i32_3206
  let v2467 : BitVec 32 := Scalar.addi c0_i32_3207 v2466
  v2467.toNat
def k0_dev66 (d0 : Dev nD) : Nat :=
  let c0_i32_3210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3209 : BitVec 32 := 1#32
  let v2468 : BitVec 32 := Scalar.muli v25 c1_i32_3209
  let v2469 : BitVec 32 := Scalar.addi c0_i32_3210 v2468
  v2469.toNat
def k0_dev67 (d0 : Dev nD) : Nat :=
  let c0_i32_3252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3251 : BitVec 32 := 1#32
  let v2503 : BitVec 32 := Scalar.muli v25 c1_i32_3251
  let v2504 : BitVec 32 := Scalar.addi c0_i32_3252 v2503
  v2504.toNat
def k0_dev68 (d0 : Dev nD) : Nat :=
  let c0_i32_3264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3263 : BitVec 32 := 1#32
  let v2513 : BitVec 32 := Scalar.muli v14 c1_i32_3263
  let v2514 : BitVec 32 := Scalar.addi c0_i32_3264 v2513
  v2514.toNat
def k0_dev69 (d0 : Dev nD) : Nat :=
  let c0_i32_3333 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3332 : BitVec 32 := 1#32
  let v2563 : BitVec 32 := Scalar.muli v25 c1_i32_3332
  let v2564 : BitVec 32 := Scalar.addi c0_i32_3333 v2563
  v2564.toNat
def k0_dev70 (d0 : Dev nD) : Nat :=
  let c0_i32_3345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3344 : BitVec 32 := 1#32
  let v2573 : BitVec 32 := Scalar.muli v14 c1_i32_3344
  let v2574 : BitVec 32 := Scalar.addi c0_i32_3345 v2573
  v2574.toNat
def k0_dev71 (d0 : Dev nD) : Nat :=
  let c0_i32_3437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3436 : BitVec 32 := 1#32
  let v2641 : BitVec 32 := Scalar.muli v25 c1_i32_3436
  let v2642 : BitVec 32 := Scalar.addi c0_i32_3437 v2641
  v2642.toNat
def k0_dev72 (d0 : Dev nD) : Nat :=
  let c0_i32_3449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3448 : BitVec 32 := 1#32
  let v2651 : BitVec 32 := Scalar.muli v14 c1_i32_3448
  let v2652 : BitVec 32 := Scalar.addi c0_i32_3449 v2651
  v2652.toNat
def k0_dev73 (d0 : Dev nD) : Nat :=
  let c0_i32_3541 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3540 : BitVec 32 := 1#32
  let v2719 : BitVec 32 := Scalar.muli v25 c1_i32_3540
  let v2720 : BitVec 32 := Scalar.addi c0_i32_3541 v2719
  v2720.toNat
def k0_dev74 (d0 : Dev nD) : Nat :=
  let c0_i32_3553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3552 : BitVec 32 := 1#32
  let v2729 : BitVec 32 := Scalar.muli v14 c1_i32_3552
  let v2730 : BitVec 32 := Scalar.addi c0_i32_3553 v2729
  v2730.toNat
def k0_dev75 (d0 : Dev nD) : Nat :=
  let c0_i32_3645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3644 : BitVec 32 := 1#32
  let v2797 : BitVec 32 := Scalar.muli v25 c1_i32_3644
  let v2798 : BitVec 32 := Scalar.addi c0_i32_3645 v2797
  v2798.toNat
def k0_dev76 (d0 : Dev nD) : Nat :=
  let c0_i32_3657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3656 : BitVec 32 := 1#32
  let v2807 : BitVec 32 := Scalar.muli v14 c1_i32_3656
  let v2808 : BitVec 32 := Scalar.addi c0_i32_3657 v2807
  v2808.toNat
def k0_dev77 (d0 : Dev nD) : Nat :=
  let c0_i32_3749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3748 : BitVec 32 := 1#32
  let v2875 : BitVec 32 := Scalar.muli v25 c1_i32_3748
  let v2876 : BitVec 32 := Scalar.addi c0_i32_3749 v2875
  v2876.toNat
def k0_dev78 (d0 : Dev nD) : Nat :=
  let c0_i32_3761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3760 : BitVec 32 := 1#32
  let v2885 : BitVec 32 := Scalar.muli v14 c1_i32_3760
  let v2886 : BitVec 32 := Scalar.addi c0_i32_3761 v2885
  v2886.toNat
def k0_dev79 (d0 : Dev nD) : Nat :=
  let c0_i32_3853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3852 : BitVec 32 := 1#32
  let v2953 : BitVec 32 := Scalar.muli v25 c1_i32_3852
  let v2954 : BitVec 32 := Scalar.addi c0_i32_3853 v2953
  v2954.toNat
def k0_dev80 (d0 : Dev nD) : Nat :=
  let c0_i32_3865 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3864 : BitVec 32 := 1#32
  let v2963 : BitVec 32 := Scalar.muli v14 c1_i32_3864
  let v2964 : BitVec 32 := Scalar.addi c0_i32_3865 v2963
  v2964.toNat
def k0_dev81 (d0 : Dev nD) : Nat :=
  let c0_i32_3957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3956 : BitVec 32 := 1#32
  let v3031 : BitVec 32 := Scalar.muli v25 c1_i32_3956
  let v3032 : BitVec 32 := Scalar.addi c0_i32_3957 v3031
  v3032.toNat
def k0_dev82 (d0 : Dev nD) : Nat :=
  let c0_i32_3969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3968 : BitVec 32 := 1#32
  let v3041 : BitVec 32 := Scalar.muli v14 c1_i32_3968
  let v3042 : BitVec 32 := Scalar.addi c0_i32_3969 v3041
  v3042.toNat
def k0_dev83 (d0 : Dev nD) : Nat :=
  let c0_i32_4061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4060 : BitVec 32 := 1#32
  let v3109 : BitVec 32 := Scalar.muli v25 c1_i32_4060
  let v3110 : BitVec 32 := Scalar.addi c0_i32_4061 v3109
  v3110.toNat
def k0_dev84 (d0 : Dev nD) : Nat :=
  let c0_i32_4073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4072 : BitVec 32 := 1#32
  let v3119 : BitVec 32 := Scalar.muli v14 c1_i32_4072
  let v3120 : BitVec 32 := Scalar.addi c0_i32_4073 v3119
  v3120.toNat
def k0_dev85 (d0 : Dev nD) : Nat :=
  let c0_i32_4165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4164 : BitVec 32 := 1#32
  let v3187 : BitVec 32 := Scalar.muli v25 c1_i32_4164
  let v3188 : BitVec 32 := Scalar.addi c0_i32_4165 v3187
  v3188.toNat
def k0_dev86 (d0 : Dev nD) : Nat :=
  let c0_i32_4177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4176 : BitVec 32 := 1#32
  let v3197 : BitVec 32 := Scalar.muli v14 c1_i32_4176
  let v3198 : BitVec 32 := Scalar.addi c0_i32_4177 v3197
  v3198.toNat
def k0_dev87 (d0 : Dev nD) : Nat :=
  let c0_i32_4269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4268 : BitVec 32 := 1#32
  let v3265 : BitVec 32 := Scalar.muli v25 c1_i32_4268
  let v3266 : BitVec 32 := Scalar.addi c0_i32_4269 v3265
  v3266.toNat
def k0_dev88 (d0 : Dev nD) : Nat :=
  let c0_i32_4281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4280 : BitVec 32 := 1#32
  let v3275 : BitVec 32 := Scalar.muli v14 c1_i32_4280
  let v3276 : BitVec 32 := Scalar.addi c0_i32_4281 v3275
  v3276.toNat
def k0_dev89 (d0 : Dev nD) : Nat :=
  let c0_i32_4373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4372 : BitVec 32 := 1#32
  let v3343 : BitVec 32 := Scalar.muli v25 c1_i32_4372
  let v3344 : BitVec 32 := Scalar.addi c0_i32_4373 v3343
  v3344.toNat
def k0_dev90 (d0 : Dev nD) : Nat :=
  let c0_i32_4385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4384 : BitVec 32 := 1#32
  let v3353 : BitVec 32 := Scalar.muli v14 c1_i32_4384
  let v3354 : BitVec 32 := Scalar.addi c0_i32_4385 v3353
  v3354.toNat
def k0_dev91 (d0 : Dev nD) : Nat :=
  let c0_i32_4477 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4476 : BitVec 32 := 1#32
  let v3421 : BitVec 32 := Scalar.muli v25 c1_i32_4476
  let v3422 : BitVec 32 := Scalar.addi c0_i32_4477 v3421
  v3422.toNat
def k0_dev92 (d0 : Dev nD) : Nat :=
  let c0_i32_4489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4488 : BitVec 32 := 1#32
  let v3431 : BitVec 32 := Scalar.muli v14 c1_i32_4488
  let v3432 : BitVec 32 := Scalar.addi c0_i32_4489 v3431
  v3432.toNat
def k0_dev93 (d0 : Dev nD) : Nat :=
  let c0_i32_4581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4580 : BitVec 32 := 1#32
  let v3499 : BitVec 32 := Scalar.muli v25 c1_i32_4580
  let v3500 : BitVec 32 := Scalar.addi c0_i32_4581 v3499
  v3500.toNat
def k0_dev94 (d0 : Dev nD) : Nat :=
  let c0_i32_4593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4592 : BitVec 32 := 1#32
  let v3509 : BitVec 32 := Scalar.muli v14 c1_i32_4592
  let v3510 : BitVec 32 := Scalar.addi c0_i32_4593 v3509
  v3510.toNat
def k0_dev95 (d0 : Dev nD) : Nat :=
  let c0_i32_4685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_4684 : BitVec 32 := 1#32
  let v3577 : BitVec 32 := Scalar.muli v25 c1_i32_4684
  let v3578 : BitVec 32 := Scalar.addi c0_i32_4685 v3577
  v3578.toNat
def k0_dev96 (d0 : Dev nD) : Nat :=
  let c0_i32_4697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_4696 : BitVec 32 := 1#32
  let v3587 : BitVec 32 := Scalar.muli v14 c1_i32_4696
  let v3588 : BitVec 32 := Scalar.addi c0_i32_4697 v3587
  v3588.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S8192x256 : Shape := ⟨2, ![8192, 256]⟩
abbrev S256x8192 : Shape := ⟨2, ![256, 8192]⟩
abbrev S8192x8192 : Shape := ⟨2, ![8192, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x8192, .f32⟩
  | .hbm, ⟨2, _⟩ => ⟨S8192x256, .f32⟩
  | .hbm, ⟨3, _⟩ => ⟨S256x8192, .f32⟩
  | .hbm, ⟨4, _⟩ => ⟨S8192x256, .f32⟩
  | .hbm, ⟨5, _⟩ => ⟨S256x8192, .f32⟩
  | .hbm, ⟨6, _⟩ => ⟨S8192x256, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x256, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x256, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.K.Program.lean ====
/-
The kernel's body as a structured program.

Every device streams two half-width weight slices around the ring in opposite directions, through a
buffer of sixteen slots per direction. The two directions run the same operations on different buffers
and semaphores, and so do the fifteen hops of a layer and the three layers; this module writes the body
with the direction (`true` the rightward stream, `false` the leftward one), the hop and the layer as
parameters, and proves that the printed body is this program.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions

@[expose] public section

set_option maxRecDepth 16384

noncomputable section

namespace Cert.KernelIdeal.Ring

open Cert.KernelIdeal Cert.KernelIdeal.Gen
open Idealize.ShloMosaic Idealize.SL.Sem

variable {F : FTy → Type} [FloatOps F]

/-! ## Buffers, slots and semaphores -/

/-- The sixteen-slot weight buffer of a direction. -/
def wbuf : Bool → Memref sig .tc .vmem S16x2x256x256 .bf16
  | true => Memref.whole cc0_scratch0
  | false => Memref.whole cc0_scratch1

theorem wbuf_whole : ∀ b, (wbuf b).IsWhole
  | true => Memref.isWhole_whole _
  | false => Memref.isWhole_whole _

/-- The current activations, their rounded copy, and the accumulator. -/
abbrev xcur : Memref sig .tc .vmem S512x256 .f32 := Memref.whole cc0_scratch2
abbrev xbf : Memref sig .tc .vmem S512x256 .bf16 := Memref.whole cc0_scratch3
abbrev accM : Memref sig .tc .vmem S512x256 .f32 := Memref.whole cc0_scratch4
abbrev xin : Memref sig .tc .vmem S512x256 .f32 := Memref.whole cc0_stg0_0
abbrev outM : Memref sig .tc .vmem S512x256 .f32 := Memref.whole cc0_stg7_0

/-- The own blocks of the two weights of layer `l`. -/
def winM : ℕ → Memref sig .tc .vmem S256x512 .f32
  | 0 => Memref.whole cc0_stg1_0
  | 1 => Memref.whole cc0_stg3_0
  | _ => Memref.whole cc0_stg5_0
def woutM : ℕ → Memref sig .tc .vmem S512x256 .f32
  | 0 => Memref.whole cc0_stg2_0
  | 1 => Memref.whole cc0_stg4_0
  | _ => Memref.whole cc0_stg6_0

theorem inbSlot : ∀ i : Fin 16, ∀ a, (![i.val, 0, 0, 0] : Fin 4 → Nat) a + S1x2x256x256.size a ≤ S16x2x256x256.size a := by
  decide
theorem inbHalf : ∀ (i : Fin 16) (j : Fin 2), ∀ a, (![i.val, j.val, 0, 0] : Fin 4 → Nat) a + S1x1x256x256.size a ≤ S16x2x256x256.size a := by
  decide
theorem inbSem : ∀ i : Fin 15, ∀ a, (![i.val] : Fin 1 → Nat) a + S1.size a ≤ S15.size a := by
  decide

/-- Slot `i`'s rectangle, and that of its half `j` (0 the columns of `Win`, 1 the rows of `Wout`). -/
abbrev slotR (i : Fin 16) : Rect S16x2x256x256 :=
  Rect.unit (s := S16x2x256x256) ![i.val, 0, 0, 0] S1x2x256x256.size (inbSlot i)
abbrev halfR (i : Fin 16) (j : Fin 2) : Rect S16x2x256x256 :=
  Rect.unit (s := S16x2x256x256) ![i.val, j.val, 0, 0] S1x1x256x256.size (inbHalf i j)

theorem words_slot : ∀ i : Fin 16, (slotR i).WholeWords (EltTy.packing .bf16) := by
  decide
theorem packed_half : ∀ j : Fin 2, (halfR 0 j).PackedRows (EltTy.packing .bf16) := by
  decide

/-- Slot `i` of a direction's buffer, as the transfers name it. -/
abbrev slotM (b : Bool) (i : Fin 16) : Memref sig .tc .vmem S2x256x256 .bf16 :=
  ((wbuf b).slice (slotR i) (fun _ => rfl)).squeeze S2x256x256 squeezes_S1x2x256x256_S2x256x256

theorem slot_words (b : Bool) (i : Fin 16) : (slotM b i).view.WordExact :=
  ((wbuf_whole b).wordExact_slice rfl _ (words_slot i)).reshape _ _

def sendArr : Bool → DmaSems sig S15
  | true => cc0_scratch5
  | false => cc0_scratch7
def recvArr : Bool → DmaSems sig S15
  | true => cc0_scratch6
  | false => cc0_scratch8

abbrev sendS (b : Bool) (i : Fin 15) : DmaSem sig :=
  (((sendArr b).slice (Rect.unit (s := S15) ![i.val] S1.size (inbSem i))).squeeze S_ squeezes_S1_S_).sem
abbrev recvS (b : Bool) (i : Fin 15) : DmaSem sig :=
  (((recvArr b).slice (Rect.unit (s := S15) ![i.val] S1.size (inbSem i))).squeeze S_ squeezes_S1_S_).sem

def credS : Bool → Sem sig
  | true => cc0_scratch9.sem
  | false => cc0_scratch10.sem

abbrev barS : Sem sig := (SemArray.scalar (sig.barrier 0 rfl) : Sems sig S_).sem

/-- The neighbours as the program computes them. -/
def toDev (d : Dev nD) : Bool → Dev nD
  | true => ⟨k0_dev3 d, k0_dev3_lt d⟩
  | false => ⟨k0_dev4 d, k0_dev4_lt d⟩

abbrev sl (j : ℕ) : Fin 16 := ⟨j % 16, Nat.mod_lt _ (by decide)⟩
abbrev se (j : ℕ) : Fin 15 := ⟨j % 15, Nat.mod_lt _ (by decide)⟩

/-! ## Values -/

/-- The rounded halves of the own weights that direction `b` streams, as stored. -/
def castHalf (w : Vec F S256x256 .f32) : FVec F S1x1x256x256 .bf16 := k0_pay3 w
/-- One streamed slot's contribution added to the accumulator. -/
def contrib (x : Vec F S512x256 .bf16) (wi : Vec F S1x1x256x256 .bf16) (a : Vec F S512x256 .f32)
    (wo : Vec F S1x1x256x256 .bf16) : FVec F S512x256 .f32 := k0_pay10 x wi a wo

/-! ## The pieces -/

abbrev P (F : FTy → Type) [FloatOps F] := Prog (TpuEff nD τ sig (Elt F) Λ₀ .tc)

abbrev fullR : Rect S512x256 := Rect.unit (s := S512x256) ![0, 0] S512x256.size inb_S512x256_S512x256_0_0
abbrev fullRt : Rect S256x512 := Rect.unit (s := S256x512) ![0, 0] S256x512.size inb_S256x512_S256x512_0_0

/-- The columns of `Win`, and the rows of `Wout`, that direction `b` streams. -/
def winR : Bool → Rect S256x512
  | true => Rect.unit (s := S256x512) ![0, 0] S256x256.size inb_S256x512_S256x256_0_0
  | false => Rect.unit (s := S256x512) ![0, 256] S256x256.size inb_S256x512_S256x256_0_256
def woutR : Bool → Rect S512x256
  | true => Rect.unit (s := S512x256) ![0, 0] S256x256.size inb_S512x256_S256x256_0_0
  | false => Rect.unit (s := S512x256) ![256, 0] S256x256.size inb_S512x256_S256x256_256_0

abbrev loadF (M : Memref sig .tc .vmem S512x256 .f32) : P F (Vec F S512x256 .f32) :=
  Prog.lift (.load M fullR.toLoadRect (View.loadsAt_vmem h_S512x256))
abbrev storeF (M : Memref sig .tc .vmem S512x256 .f32) (v : FVec F S512x256 .f32) : P F PUnit :=
  Prog.lift (.store M fullR v Finset.univ (View.stores_vmem_bits_univ h_S512x256 rfl) (.inl rfl))

def loadWin (l : ℕ) : Bool → P F (Vec F S256x256 .f32)
  | true => Prog.lift (.load (winM l) (Rect.unit (s := S256x512) ![0, 0] S256x256.size inb_S256x512_S256x256_0_0).toLoadRect (View.loadsAt_vmem h_S256x256))
  | false => Prog.lift (.load (winM l) (Rect.unit (s := S256x512) ![0, 256] S256x256.size inb_S256x512_S256x256_0_256).toLoadRect (View.loadsAt_vmem h_S256x256))
def loadWout (l : ℕ) : Bool → P F (Vec F S256x256 .f32)
  | true => Prog.lift (.load (woutM l) (Rect.unit (s := S512x256) ![0, 0] S256x256.size inb_S512x256_S256x256_0_0).toLoadRect (View.loadsAt_vmem h_S256x256))
  | false => Prog.lift (.load (woutM l) (Rect.unit (s := S512x256) ![256, 0] S256x256.size inb_S512x256_S256x256_256_0).toLoadRect (View.loadsAt_vmem h_S256x256))

abbrev loadHalf (b : Bool) (i : Fin 16) (j : Fin 2) : P F (Vec F S1x1x256x256 .bf16) :=
  Prog.lift (.load (wbuf b) (halfR i j).toLoadRect (View.loadsAt_vmem h_S1x1x256x256))
abbrev storeHalf (b : Bool) (j : Fin 2) (v : FVec F S1x1x256x256 .bf16) : P F PUnit :=
  Prog.lift (.store (wbuf b) (halfR 0 j) v Finset.univ (View.stores_vmem h_S1x1x256x256 ((wbuf_whole b).storeExact_slice rfl _ (packed_half j)) (fun _ => rfl)) (.inl rfl))

/-- The neighbours' barrier signals and the wait for theirs. -/
def barrier (d : Dev nD) : P F PUnit := do
  semSignalWord (⟨k0_dev1 d, k0_dev1_lt d⟩ : Dev nD) barS 1#32
  semSignalWord (⟨k0_dev2 d, k0_dev2_lt d⟩ : Dev nD) barS 1#32
  semWaitWord barS 2#32

def loadX : P F PUnit := do
  let x ← loadF xin
  let _ ← loadF xcur
  storeF xcur (k0_pay2 x)

/-- The own weights' halves of direction `b` into slot 0. -/
def fillB (l : ℕ) (b : Bool) : P F PUnit := do
  let w ← loadWin l b
  let _ ← loadHalf b 0 0
  storeHalf b 0 (castHalf w)
  let w ← loadWout l b
  let _ ← loadHalf b 0 1
  storeHalf b 1 (castHalf w)

def roundX : P F PUnit := do
  let x ← loadF xcur
  let _ ← Prog.lift (.load xbf fullR.toLoadRect (View.loadsAt_vmem h_S512x256))
  Prog.lift (.store xbf fullR (k0_pay8 x : FVec F S512x256 .bf16) Finset.univ (View.stores_vmem h_S512x256 ((Memref.isWhole_whole cc0_scratch3).storeExact_slice rfl _ packedbf16_S512x256_S512x256_0_0) (fun _ => rfl)) (.inl rfl))

def fill (l : ℕ) : P F PUnit := do
  fillB l true
  fillB l false
  roundX

/-- Slot `j` of direction `b` sent into the neighbour's slot `j + 1`. -/
def startB (d : Dev nD) (j : ℕ) (b : Bool) : P F PUnit :=
  Prog.lift (.enqueueDma (slotM b (sl j)) (.remote (Dev.tc (toDev d b)) (slotM b (sl (j + 1))) (.dma (sendS b (se j))))
    (.dma (recvS b (se j))) (slot_words b (sl j)) (slot_words b (sl (j + 1))) ⟨⟨rfl, Or.inl rfl⟩, trivial⟩)

def starts (d : Dev nD) (j : ℕ) : P F PUnit := do
  startB d j true
  startB d j false

def waitsB (j : ℕ) (b : Bool) : P F PUnit := do
  Prog.lift (.waitDma2 (sendS b (se j)) (slotM b (sl (j + 1))) (slotM b (sl j)) (slot_words b (sl (j + 1))) (slot_words b (sl j)))
  Prog.lift (.waitDma2 (recvS b (se j)) (slotM b (sl j)) (slotM b (sl (j + 1))) (slot_words b (sl j)) (slot_words b (sl (j + 1))))

def waits (j : ℕ) : P F PUnit := do
  waitsB j true
  waitsB j false

/-- The product with the own blocks, into the accumulator. -/
def localMul (l : ℕ) : P F PUnit := do
  let x ← loadF xcur
  let wi : Vec F S256x512 .f32 ← Prog.lift (.load (winM l) fullRt.toLoadRect (View.loadsAt_vmem h_S256x512))
  let wo ← loadF (woutM l)
  let _ ← loadF accM
  storeF accM (k0_pay9 x wi wo)

/-- The contribution of slot `j` of direction `b`. -/
def contribB (j : ℕ) (b : Bool) : P F PUnit := do
  let x : Vec F S512x256 .bf16 ← Prog.lift (.load xbf fullR.toLoadRect (View.loadsAt_vmem h_S512x256))
  let wi ← loadHalf b (sl j) 0
  let a ← loadF accM
  let wo ← loadHalf b (sl j) 1
  let _ ← loadF accM
  storeF accM (contrib x wi a wo)

def contribs (j : ℕ) : P F PUnit := do
  contribB j true
  contribB j false

/-- The hops from hop `j` on: `n` hops that pass their slot on, then the last one. -/
def hops (d : Dev nD) : ℕ → ℕ → P F PUnit
  | 0, j => do
    waits j
    contribs (j + 1)
  | n + 1, j => do
    waits j
    starts d (j + 1)
    contribs (j + 1)
    hops d n (j + 1)

def core (d : Dev nD) (l : ℕ) : P F PUnit := do
  starts d 0
  localMul l
  hops d 14 0

/-- The credits to both neighbours, and the next layer's activations. -/
def layerEnd (d : Dev nD) : P F PUnit := do
  semSignalWord (⟨k0_dev1 d, k0_dev1_lt d⟩ : Dev nD) (credS true) 1#32
  semSignalWord (⟨k0_dev2 d, k0_dev2_lt d⟩ : Dev nD) (credS false) 1#32
  let a ← loadF accM
  let _ ← loadF xcur
  storeF xcur (k0_pay55 a)

def credits : P F PUnit := do
  semWaitWord (credS true) 1#32
  semWaitWord (credS false) 1#32

def storeOut : P F PUnit := do
  let a ← loadF accM
  let _ ← loadF outM
  storeF outM a

def prog : P F PUnit := do
  let d ← Prog.lift .deviceId
  barrier d
  loadX
  fill 0
  core d 0
  layerEnd d
  fill 1
  credits
  core d 1
  layerEnd d
  fill 2
  credits
  core d 2
  storeOut

set_option maxRecDepth 100000 in
theorem body_eq (t : Fin cfg0.N) : bodyAt0 (F := F) t = prog := by
  chain_rfl

end Cert.KernelIdeal.Ring

end
-- ==== Proof.K.Cells.lean ====
/-
The ring, the contents of its slots, and the protocol of its semaphores.

Device `c` streams to `nbr b c` in direction `b`; what it streams first are the rounded halves of its own
weights, so slot `s` of device `c` holds, in each layer, the weights of the device `s` places upstream.
Every device has four kinds of semaphore cells: the barrier, one credit cell per direction, and one send
and one receive cell per direction and hop.
-/
module

public import proofs.«01_k».proof.Proof.K.Program
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Idealize.SL.BI.Laws
open Idealize.SL.ProofMode
open Idealize.SL.Sem
open Idealize.ShloMosaic.Rounds
open Idealize.ShloMosaic.Pipeline (Dat Cfg Window BodyObligation cellOf)

variable {F : FTy → Type} [FloatOps F]

abbrev UB := URounds (GSem nD τ sig) Bool
abbrev UU := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## The ring -/

set_option backward.proofsInPublic true in
/-- The device that `c` streams to in direction `b`. -/
def nbr : Bool → Dev nD → Dev nD
  | true, c => ⟨(c.val + 1) % 16, Nat.mod_lt _ (by decide)⟩
  | false, c => ⟨(c.val + 15) % 16, Nat.mod_lt _ (by decide)⟩

/-- The device that streams to `c` in direction `b`. -/
abbrev up (b : Bool) (c : Dev nD) : Dev nD := nbr (!b) c

theorem up_nbr (b : Bool) (c : Dev nD) : up b (nbr b c) = c := by revert c b; decide
theorem nbr_up (b : Bool) (c : Dev nD) : nbr b (up b c) = c := by revert c b; decide

def ringE (b : Bool) : Dev nD ≃ Dev nD := ⟨nbr b, up b, up_nbr b, nbr_up b⟩

theorem dev1_eq : ∀ c : Dev nD, (⟨k0_dev1 c, k0_dev1_lt c⟩ : Dev nD) = up true c := by decide +kernel
theorem dev2_eq : ∀ c : Dev nD, (⟨k0_dev2 c, k0_dev2_lt c⟩ : Dev nD) = up false c := by decide +kernel
theorem dev3_eq : ∀ c : Dev nD, (⟨k0_dev3 c, k0_dev3_lt c⟩ : Dev nD) = nbr true c := by decide +kernel
theorem dev4_eq : ∀ c : Dev nD, (⟨k0_dev4 c, k0_dev4_lt c⟩ : Dev nD) = nbr false c := by decide +kernel
theorem toDev_eq (c : Dev nD) : ∀ b, toDev c b = nbr b c
  | true => dev3_eq c
  | false => dev4_eq c

/-- The device `s` places upstream of `c`. -/
def src (b : Bool) (s : ℕ) (c : Dev nD) : Dev nD := (up b)^[s] c

theorem src_zero (b : Bool) (c : Dev nD) : src b 0 c = c := rfl
theorem src_succ (b : Bool) (s : ℕ) (c : Dev nD) : src b (s + 1) (nbr b c) = src b s c := by
  unfold src; rw [Function.iterate_succ_apply, up_nbr]

/-! ## Contents -/

/-- The blocks of the arguments on device `c`. -/
def xV (c : Dev nD) : Vec F S512x256 .f32 :=
  (win0_0.blk (0 : Fin 1)).view.read (Elt F) (m ((c : Thread nD τ).loc main_arg0))
def winV : ℕ → Dev nD → Vec F S256x512 .f32
  | 0, c => (win0_1.blk (0 : Fin 1)).view.read (Elt F) (m ((c : Thread nD τ).loc main_arg1))
  | 1, c => (win0_3.blk (0 : Fin 1)).view.read (Elt F) (m ((c : Thread nD τ).loc main_arg3))
  | _, c => (win0_5.blk (0 : Fin 1)).view.read (Elt F) (m ((c : Thread nD τ).loc main_arg5))
def woutV : ℕ → Dev nD → Vec F S512x256 .f32
  | 0, c => (win0_2.blk (0 : Fin 1)).view.read (Elt F) (m ((c : Thread nD τ).loc main_arg2))
  | 1, c => (win0_4.blk (0 : Fin 1)).view.read (Elt F) (m ((c : Thread nD τ).loc main_arg4))
  | _, c => (win0_6.blk (0 : Fin 1)).view.read (Elt F) (m ((c : Thread nD τ).loc main_arg6))

theorem inbSub : ∀ j : Fin 2, ∀ a, (![0, j.val, 0, 0] : Fin 4 → Nat) a + S1x1x256x256.size a ≤ S1x2x256x256.size a := by
  decide

/-- Half `j` of one slot. -/
abbrev subR (j : Fin 2) : Rect S1x2x256x256 :=
  Rect.unit (s := S1x2x256x256) ![0, j.val, 0, 0] S1x1x256x256.size (inbSub j)

/-- Half `j` of a slot's contents. -/
def half (j : Fin 2) (X : Vec F S2x256x256 .bf16) : Vec F S1x1x256x256 .bf16 := fun z =>
  X ((Shape.reshapeEquiv (squeezes_S1x2x256x256_S2x256x256).numel_eq).symm ((subR j).idx z))

/-- The index of a half with the last two coordinates of an index of the slot. -/
def halfIx (y : S1x2x256x256.Idx) : S1x1x256x256.Idx := fun a =>
  ⟨if a.val < 2 then 0 else (y a).val, by
    fin_cases a
    · exact Nat.one_pos
    · exact Nat.one_pos
    · exact (y 2).isLt
    · exact (y 3).isLt⟩

/-- The slot's contents with the two halves given. -/
def pairV (a b : Vec F S1x1x256x256 .bf16) : Vec F S2x256x256 .bf16 := fun x =>
  let y := Shape.reshapeEquiv (squeezes_S1x2x256x256_S2x256x256).numel_eq x
  if (y 1).val = 0 then a (halfIx y) else b (halfIx y)

omit [FloatOps F] in
theorem subR_halfIx (y : S1x2x256x256.Idx) (j : Fin 2) (h : (y 1).val = j.val) : (subR j).idx (halfIx y) = y := by
  funext a
  apply Fin.ext
  have h0 : (y 0).val = 0 := Nat.lt_one_iff.mp (y 0).isLt
  fin_cases a <;> simp [halfIx, h, h0]

omit [FloatOps F] in
theorem halfIx_subR (z : S1x1x256x256.Idx) (j : Fin 2) : halfIx ((subR j).idx z) = z := by
  funext a
  apply Fin.ext
  have h0 : (z 0).val = 0 := Nat.lt_one_iff.mp (z 0).isLt
  have h1 : (z 1).val = 0 := Nat.lt_one_iff.mp (z 1).isLt
  fin_cases a <;> simp [halfIx, h0, h1]

omit [FloatOps F] in
theorem subR_one (z : S1x1x256x256.Idx) (j : Fin 2) : ((subR j).idx z 1).val = j.val := by
  have h1 : (z 1).val = 0 := Nat.lt_one_iff.mp (z 1).isLt
  simp [h1]

omit [FloatOps F] in
theorem half_pairV_zero (a b : Vec F S1x1x256x256 .bf16) : half 0 (pairV a b) = a := by
  funext z
  unfold half pairV
  rw [Equiv.apply_symm_apply]
  dsimp only
  exact (if_pos (subR_one z 0)).trans (congrArg a (halfIx_subR z 0))

omit [FloatOps F] in
theorem half_pairV_one (a b : Vec F S1x1x256x256 .bf16) : half 1 (pairV a b) = b := by
  funext z
  unfold half pairV
  rw [Equiv.apply_symm_apply]
  dsimp only
  rw [if_neg (by rw [subR_one z 1]; decide), halfIx_subR]

omit [FloatOps F] in
theorem eq_pairV (X : Vec F S2x256x256 .bf16) : X = pairV (half 0 X) (half 1 X) := by
  funext x
  unfold half pairV
  have hx : ∀ (j : Fin 2), ((Shape.reshapeEquiv (squeezes_S1x2x256x256_S2x256x256).numel_eq x : S1x2x256x256.Idx) 1).val = j.val →
      X x = X ((Shape.reshapeEquiv (squeezes_S1x2x256x256_S2x256x256).numel_eq).symm
        ((subR j).idx (halfIx (Shape.reshapeEquiv (squeezes_S1x2x256x256_S2x256x256).numel_eq x)))) := fun j hj => by
    rw [subR_halfIx _ j hj, Equiv.symm_apply_apply]
  dsimp only
  split
  · next h => exact hx 0 h
  · next h =>
      refine hx 1 ?_
      have := ((Shape.reshapeEquiv (squeezes_S1x2x256x256_S2x256x256).numel_eq x : S1x2x256x256.Idx) 1).isLt
      have h2 : S1x2x256x256.size 1 = 2 := rfl
      show _ = 1
      omega

/-- The own blocks' part that direction `b` streams. -/
def winPart (l : ℕ) (b : Bool) (c : Dev nD) : Vec F S256x256 .f32 :=
  match b with
  | true => fun x => winV m l c ((winR true).idx x)
  | false => fun x => winV m l c ((winR false).idx x)
def woutPart (l : ℕ) (b : Bool) (c : Dev nD) : Vec F S256x256 .f32 :=
  match b with
  | true => fun x => woutV m l c ((woutR true).idx x)
  | false => fun x => woutV m l c ((woutR false).idx x)

/-- What device `d` streams in direction `b` in layer `l`. -/
def WT (l : ℕ) (b : Bool) (d : Dev nD) : Vec F S2x256x256 .bf16 :=
  pairV (castHalf (winPart m l b d)) (castHalf (woutPart m l b d))

/-! ## The cells -/

/-- The kinds of cells: the barrier and the two credits; and the send (`true`) and receive (`false`) cells. -/
abbrev CK := Option Bool ⊕ (Bool × Bool × Fin 15)
abbrev kBar : CK := .inl none
abbrev kCred (b : Bool) : CK := .inl (some b)
abbrev kSend (b : Bool) (i : Fin 15) : CK := .inr (true, b, i)
abbrev kRecv (b : Bool) (i : Fin 15) : CK := .inr (false, b, i)

def csem : CK → SemLoc sig
  | .inl none => .reg barS
  | .inl (some b) => .reg (credS b)
  | .inr (true, b, i) => .dma (sendS b i)
  | .inr (false, b, i) => .dma (recvS b i)

abbrev cell (c : Dev nD) (k : CK) : GSem nD τ sig := ((c : Thread nD τ), csem k)

theorem csem_inj : Function.Injective csem := by
  have h : ∀ k k' : CK, csem k = csem k' → k = k' := by decide +kernel
  exact fun k k' => h k k'

/-- The kind of a semaphore, if it is one of the ring's. -/
def kindOf (s : SemLoc sig) : Option CK := Function.partialInv csem s

theorem kindOf_csem (k : CK) : kindOf (csem k) = some k := Function.partialInv_left csem_inj k

theorem cell_inj {c c' : Dev nD} {k k' : CK} (h : cell c k = cell c' k') : c = c' ∧ k = k' := by
  have h1 := congrArg (fun g : GSem nD τ sig => g.1.1) h
  have h2 : csem k = csem k' := congrArg (fun g : GSem nD τ sig => g.2) h
  exact ⟨h1, csem_inj h2⟩

/-- The credit of one slot's transfer. -/
def N : ℕ := (slotM true 0).view.dmaCredit
theorem N_pos : 0 < N := View.dmaCredit_pos _ (by decide)
theorem slot_credit (b : Bool) (i : Fin 16) : (slotM b i).view.dmaCredit = N := by
  cases b <;> rfl

/-! ## The protocol -/

/-- Slot `i` of direction `b` on device `c`, at share `q`, holding `X`. -/
def slotP (b : Bool) (i : Fin 16) (c : Dev nD) (q : PosShare TreeShare) (X : Vec F S2x256x256 .bf16) : sProp 𝕄 :=
  owns (c : Thread nD τ) (slotM b i) q X

omit [FloatOps F] in
instance slotP_storable (b : Bool) (i : Fin 16) (c : Dev nD) (q : PosShare TreeShare) (X : Vec F S2x256x256 .bf16) :
    BI.Storable (upEmb : UEmb _ 𝕄) (slotP (F := F) b i c q X) := by unfold slotP; infer_instance

/-- Device `c`'s permission to write its slots 1 to 15 of direction `b` in layer `r`: the slots, with that `c` has come to
    round `r` of their receive cells. -/
def handover (r : ℕ) (b : Bool) (c : Dev nD) : sProp 𝕄 :=
  bigSep (Finset.range 15) fun s => iprop((∃ X, slotP b (sl (s + 1)) c fullShare X) ∗ reached ER (cell c (kRecv b (se s))) r)

omit [FloatOps F] in
instance handover_storable (r : ℕ) (b : Bool) (c : Dev nD) : BI.Storable (upEmb : UEmb _ 𝕄) (handover (F := F) r b c) := by
  unfold handover; infer_instance

/-- What a completed send returns: the other half share of the slot sent. -/
def sendPay (l : ℕ) (b : Bool) (s : ℕ) (c : Dev nD) : sProp 𝕄 :=
  slotP b (sl s) c fullShare.right (WT m l b (src b s c))

/-- What a landing hands over: the slot filled, and that the sender had come to round `l` of its credit cell. -/
def recvPay (l : ℕ) (b : Bool) (s : ℕ) (c : Dev nD) : sProp 𝕄 :=
  iprop(slotP b (sl (s + 1)) c fullShare (WT m l b (src b (s + 1) c)) ∗ reached ER (cell (up b c) (kCred b)) l)

instance sendPay_storable (l : ℕ) (b : Bool) (s : ℕ) (c : Dev nD) : BI.Storable (upEmb : UEmb _ 𝕄) (sendPay m l b s c) := by
  unfold sendPay; infer_instance
instance recvPay_storable (l : ℕ) (b : Bool) (s : ℕ) (c : Dev nD) : BI.Storable (upEmb : UEmb _ 𝕄) (recvPay m l b s c) := by
  unfold recvPay; infer_instance

/-- The barrier has one round of two duties, one per direction; a credit cell two rounds of one duty, between the layers; a
    transfer's cells one round of one duty per layer. -/
def dutiesK : CK → ℕ → Finset Bool
  | .inl none, r => if r = 0 then Finset.univ else ∅
  | .inl (some _), r => if r < 2 then {false} else ∅
  | .inr _, r => if r < 3 then {false} else ∅

def amountK : CK → ℕ
  | .inl _ => 1
  | .inr _ => N

def payK : CK → Dev nD → ℕ → Bool → sProp 𝕄
  | .inl none, c, _, d => handover 0 d (nbr d c)
  | .inl (some b), c, r, _ => handover (r + 1) b (nbr b c)
  | .inr (true, b, i), c, r, _ => sendPay m r b i.val c
  | .inr (false, b, i), c, r, _ => recvPay m r b i.val c

instance payK_storable : ∀ (k : CK) (c : Dev nD) (r : ℕ) (d : Bool), BI.Storable (upEmb : UEmb _ 𝕄) (payK m k c r d)
  | .inl none, c, _, d => by unfold payK; infer_instance
  | .inl (some b), c, r, _ => by unfold payK; infer_instance
  | .inr (true, b, i), c, r, _ => by unfold payK; infer_instance
  | .inr (false, b, i), c, r, _ => by unfold payK; infer_instance

def ringRd : Rounds.Schedule (GSem nD τ sig) Bool 𝕄 where
  duties g r := if g.1.2 = .tc then (kindOf g.2).elim ∅ (fun k => dutiesK k r) else ∅
  amount g _ _ := (kindOf g.2).elim 1 amountK
  payload g r d := match kindOf g.2 with
    | some k => payK m k g.1.1 r d
    | none => iprop(emp)
  amount_pos g _ _ _ := by
    cases kindOf g.2 with
    | none => exact Nat.one_pos
    | some k => rcases k with k | k
                · exact Nat.one_pos
                · exact N_pos
  unitless _ := False

instance ringRd_payload_storable (g : GSem nD τ sig) (r : ℕ) (d : Bool) :
    BI.Storable (upEmb : UEmb _ 𝕄) ((ringRd m).payload g r d) := by
  unfold ringRd
  dsimp only
  split <;> infer_instance

section Sched
variable (c : Dev nD)

theorem duties_cell (k : CK) (r : ℕ) : (ringRd m).duties (cell c k) r = dutiesK k r := by
  dsimp only [ringRd]; rw [if_pos rfl, kindOf_csem]; rfl
theorem amount_cell (k : CK) (r : ℕ) (d : Bool) : (ringRd m).amount (cell c k) r d = amountK k := by
  dsimp only [ringRd]; rw [kindOf_csem]; rfl
theorem payload_cell (k : CK) (r : ℕ) (d : Bool) : (ringRd m).payload (cell c k) r d = payK m k c r d := by
  dsimp only [ringRd]; rw [kindOf_csem]

theorem duties_later (k : CK) : ∀ r, 3 ≤ r → (ringRd m).duties (cell c k) r = ∅ := fun r hr => by
  rw [duties_cell]
  rcases k with (_ | b) | k
  · exact if_neg (by omega)
  · exact if_neg (by omega)
  · exact if_neg (by omega)
theorem duties_bar_later : ∀ r, 1 ≤ r → (ringRd m).duties (cell c kBar) r = ∅ := fun r hr => by
  rw [duties_cell]; exact if_neg (by omega)
theorem duties_cred_later (b : Bool) : ∀ r, 2 ≤ r → (ringRd m).duties (cell c (kCred b)) r = ∅ := fun r hr => by
  rw [duties_cell]; exact if_neg (by omega)

theorem duties_bar : (ringRd m).duties (cell c kBar) 0 = Finset.univ := by rw [duties_cell]; rfl
theorem duties_cred (b : Bool) {r : ℕ} (h : r < 2) : (ringRd m).duties (cell c (kCred b)) r = {false} := by
  rw [duties_cell]; exact if_pos h
theorem duties_xfer (k : Bool × Bool × Fin 15) {r : ℕ} (h : r < 3) : (ringRd m).duties (cell c (.inr k)) r = {false} := by
  rw [duties_cell]; exact if_pos h

theorem expect_bar : (ringRd m).expect (cell c kBar) 0 = 2 := by
  unfold Schedule.expect Schedule.amountOf
  rw [duties_bar, Finset.sum_congr rfl fun d _ => amount_cell m c kBar 0 d, Finset.sum_const, Finset.card_univ, Fintype.card_bool]
  rfl
theorem expect_cred (b : Bool) {r : ℕ} (h : r < 2) : (ringRd m).expect (cell c (kCred b)) r = 1 := by
  unfold Schedule.expect Schedule.amountOf
  rw [duties_cred m c b h, Finset.sum_singleton, amount_cell]; rfl
theorem expect_xfer (k : Bool × Bool × Fin 15) {r : ℕ} (h : r < 3) : (ringRd m).expect (cell c (.inr k)) r = N := by
  unfold Schedule.expect Schedule.amountOf
  rw [duties_xfer m c k h, Finset.sum_singleton, amount_cell]; rfl

theorem rest_bar : bigSep ((ringRd m).duties (cell c kBar) 0 \ ∅) (fun d => (ringRd m).payload (cell c kBar) 0 d)
    = iprop(handover 0 true (nbr true c) ∗ handover 0 false (nbr false c)) := by
  rw [Finset.sdiff_empty, duties_bar, bigSep_univ_eq_bigSepL [true, false] (by decide) (by decide), bigSepL_cons_cons, bigSepL_singleton,
    payload_cell, payload_cell]
  rfl
theorem rest_cred (b : Bool) {r : ℕ} (h : r < 2) :
    bigSep ((ringRd m).duties (cell c (kCred b)) r \ ∅) (fun d => (ringRd m).payload (cell c (kCred b)) r d)
    = handover (r + 1) b (nbr b c) := by
  rw [Finset.sdiff_empty, duties_cred m c b h, bigSep_singleton, payload_cell]; rfl
theorem rest_xfer (k : Bool × Bool × Fin 15) {r : ℕ} (h : r < 3) :
    bigSep ((ringRd m).duties (cell c (.inr k)) r \ ∅) (fun d => (ringRd m).payload (cell c (.inr k)) r d)
    = payK m (.inr k) c r false := by
  rw [Finset.sdiff_empty, duties_xfer m c k h, bigSep_singleton, payload_cell]

end Sched

/-! ## What each device owes at launch; the levels -/

/-- The credit owed to the neighbour's receive cell for hop `s` of layer `l`. -/
def hopO (c : Dev nD) (l s : ℕ) (b : Bool) : CellTallies nD τ sig ℕ := tallyAt (cell (nbr b c) (kRecv b (se s))) l N
def credO (c : Dev nD) (l : ℕ) (b : Bool) : CellTallies nD τ sig ℕ := tallyAt (cell (up b c) (kCred b)) l 1
def barO (c : Dev nD) (b : Bool) : CellTallies nD τ sig ℕ := tallyAt (cell (up b c) kBar) 0 1

/-- The credits of `n` hops of layer `l` from hop `j` on, above `R`. -/
def hopsO (c : Dev nD) (l : ℕ) : ℕ → ℕ → CellTallies nD τ sig ℕ → CellTallies nD τ sig ℕ
  | 0, _, R => R
  | n + 1, j, R => hopsO c l n (j + 1) R + hopO c l j false + hopO c l j true

/-- What is owed after the hops of layer 2, 1 and 0. -/
def owe2 (c : Dev nD) : CellTallies nD τ sig ℕ := 0
def owe1 (c : Dev nD) : CellTallies nD τ sig ℕ := hopsO c 2 15 0 (owe2 c) + credO c 1 false + credO c 1 true
def owe0 (c : Dev nD) : CellTallies nD τ sig ℕ := hopsO c 1 15 0 (owe1 c) + credO c 0 false + credO c 0 true
def owe (c : Dev nD) : ℕ → CellTallies nD τ sig ℕ
  | 0 => owe0 c
  | 1 => owe1 c
  | _ => owe2 c
/-- What is owed at launch. -/
def O₀ (c : Dev nD) : CellTallies nD τ sig ℕ := hopsO c 0 15 0 (owe0 c) + barO c false + barO c true

def L (g : GSem nD τ sig) : Finset ℕ := if g.1.2 = .tc then Finset.range 3 else ∅

/-- The levels, in the order of the program's waits: the barrier, then layer by layer the hops and the credit. -/
def lvK : CK → ℕ → ℕ
  | .inl none, _ => 1
  | .inl (some _), l => 20 * l + 18
  | .inr (true, _, _), _ => 0
  | .inr (false, _, i), l => 20 * l + 2 + i.val
def lv (g : GSem nD τ sig) (l : ℕ) : ℕ := (kindOf g.2).elim 0 (fun k => lvK k l)

theorem lv_cell (c : Dev nD) (k : CK) (l : ℕ) : lv (cell c k) l = lvK k l := by
  unfold lv; rw [kindOf_csem]; rfl
theorem L_of_ne (g : GSem nD τ sig) (h : g.1.2 ≠ .tc) : L g = ∅ := if_neg h
theorem L_tc (c : Dev nD) (sm : SemLoc sig) : L ((c : Thread nD τ), sm) = Finset.range 3 := if_pos rfl

/-- Everything `O` owes lies above level `n`. -/
def Above (n : ℕ) (O : CellTallies nD τ sig ℕ) : Prop := ∀ g u, 0 < O g u → u ∈ L g ∧ n < lv g u

theorem above_zero (n : ℕ) : Above n 0 := fun g u h => absurd h (Nat.lt_irrefl 0)
theorem above_add {n : ℕ} {O O' : CellTallies nD τ sig ℕ} (h : Above n O) (h' : Above n O') : Above n (O + O') := fun g u hg => by
  rw [Pi.add_apply, Finsupp.add_apply] at hg
  rcases Nat.lt_or_ge 0 (O g u) with h1 | h1
  · exact h g u h1
  · exact h' g u (by omega)
theorem above_tally {n : ℕ} (c : Dev nD) (k : CK) (l a : ℕ) (hl : l < 3) (hn : n < lvK k l) : Above n (tallyAt (cell c k) l a) := fun g u hg => by
  rw [tallyAt_apply] at hg
  by_cases h : g = cell c k ∧ u = l
  · obtain ⟨rfl, rfl⟩ := h
    exact ⟨by rw [L_tc]; exact Finset.mem_range.mpr hl, by rw [lv_cell]; exact hn⟩
  · rw [if_neg h] at hg; exact absurd hg (Nat.lt_irrefl 0)
theorem Above.mono {n n' : ℕ} {O : CellTallies nD τ sig ℕ} (h : Above n' O) (hn : n ≤ n') : Above n O := fun g u hg =>
  ⟨(h g u hg).1, lt_of_le_of_lt hn (h g u hg).2⟩

theorem above_hops {n : ℕ} (c : Dev nD) (l : ℕ) (hl : l < 3) {R : CellTallies nD τ sig ℕ} (hR : Above n R) :
    ∀ k j : ℕ, k + j ≤ 15 → n < 20 * l + 2 + j → Above n (hopsO c l k j R)
  | 0, j, _, _ => hR
  | k + 1, j, hk, hn => by
    have hj : (se j).val = j := Nat.mod_eq_of_lt (by omega)
    exact above_add (above_add (above_hops c l hl hR k (j + 1) (by omega) (by omega))
      (above_tally _ _ _ _ hl (by show _ < 20 * l + 2 + (se j).val; omega)))
      (above_tally _ _ _ _ hl (by show _ < 20 * l + 2 + (se j).val; omega))

theorem above_cred {n : ℕ} (c : Dev nD) (l : ℕ) (hl : l < 3) (hn : n < 20 * l + 18) (b : Bool) : Above n (credO c l b) :=
  above_tally _ _ _ _ hl hn

theorem above_owe (c : Dev nD) : ∀ l, l < 3 → Above (20 * l + 17) (owe c l)
  | 0, _ => above_add (above_add (above_hops c 1 (by decide) (above_add (above_add (above_hops c 2 (by decide) (above_zero _) 15 0 (by decide) (by decide))
      (above_cred c 1 (by decide) (by decide) false)) (above_cred c 1 (by decide) (by decide) true)) 15 0 (by decide) (by decide))
      (above_cred c 0 (by decide) (by decide) false)) (above_cred c 0 (by decide) (by decide) true)
  | 1, _ => above_add (above_add (above_hops c 2 (by decide) (above_zero _) 15 0 (by decide) (by decide))
      (above_cred c 1 (by decide) (by decide) false)) (above_cred c 1 (by decide) (by decide) true)
  | 2, _ => above_zero _
  | _ + 3, h => absurd h (by omega)

/-- At the barrier wait a device owes the hops and credits of every layer. -/
theorem above_start (c : Dev nD) : Above 1 (hopsO c 0 15 0 (owe0 c)) :=
  above_hops c 0 (by decide) ((above_owe c 0 (by decide)).mono (by decide)) 15 0 (by decide) (by decide)

theorem above_O₀ (c : Dev nD) : Above 0 (O₀ c) :=
  above_add (above_add ((above_start c).mono (by decide)) (above_tally _ _ _ _ (by decide) (by decide)))
    (above_tally _ _ _ _ (by decide) (by decide))

omit [FloatOps F] in
/-- A device may wait on a cell at a level no higher than all it owes. -/
theorem mayWait {n : ℕ} (c : Dev nD) (s : SemLoc sig) (l : ℕ) (hl : l < 3) (hs : lv ((c : Thread nD τ), s) l ≤ n)
    {O : CellTallies nD τ sig ℕ} (hO : Above n O) :
    (levAts L lv : sProp 𝕄) ⊢ MayWait (c : Thread nD τ) s l O :=
  MayOwe.of_cut (L := L) (lev := lv) n (fun p hp => by rw [Finset.mem_singleton.mp hp, L_tc]; exact Finset.mem_range.mpr hl)
    (fun g u hg => (hO g u hg).1)
    (fun p hp => by rw [Finset.mem_singleton.mp hp]; exact hs)
    (fun g u hg => (hO g u hg).2)

end Cert.KernelIdeal.Ring

end
-- ==== Proof.K.Slots.lean ====
/-
The sixteen slots of a direction's buffer: cutting the buffer into them and joining them, the loads of a
half of a slot, and the stores that fill slot 0.
-/
module

public import proofs.«01_k».proof.Proof.K.Cells
public import Idealize.ShloMosaic.Lib.Ring

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Idealize.SL.BI.Laws
open Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

/-! ## The slots' elements -/

/-- Where half `j` of slot `i` lies in the buffer, through the slot. -/
theorem half_idx (i : Fin 16) (j : Fin 2) (z : S1x1x256x256.Idx) :
    (halfR i j).idx z = (slotR i).emb ((subR j).idx z) := by
  funext a
  apply Fin.ext
  have h0 : (z 0).val = 0 := Nat.lt_one_iff.mp (z 0).isLt
  have h1 : (z 1).val = 0 := Nat.lt_one_iff.mp (z 1).isLt
  fin_cases a <;> simp [h0, h1]

theorem slot_set (b : Bool) (i : Fin 16) : (slotM b i).view.set = (slotR i).set.map (wbuf b).view.emb := by
  show (((wbuf b).view.slice (slotR i)).reshape _ _).set = _
  rw [View.set_reshape, View.set_slice]

theorem slot_disjoint (b : Bool) (i i' : Fin 16) (h : i ≠ i') : Disjoint (slotM b i).view.set (slotM b i').view.set := by
  rw [slot_set, slot_set]
  refine (Finset.disjoint_map _).mpr (Rect.unit_disjoint 0 ?_)
  have : i.val ≠ i'.val := fun e => h (Fin.ext e)
  show i.val + 1 ≤ i'.val ∨ i'.val + 1 ≤ i.val
  omega

theorem slot_cover (b : Bool) : (Finset.univ : Finset (Fin 16)).biUnion (fun i => (slotM b i).view.set) = (wbuf b).view.set := by
  ext x
  simp only [Finset.mem_biUnion, Finset.mem_univ, true_and]
  constructor
  · rintro ⟨i, hi⟩
    rw [slot_set] at hi
    obtain ⟨y, -, rfl⟩ := Finset.mem_map.mp hi
    exact Finset.mem_map_of_mem _ (Finset.mem_univ y)
  · intro hx
    obtain ⟨y, -, rfl⟩ := Finset.mem_map.mp hx
    refine ⟨(⟨(y 0).val, (y 0).isLt⟩ : Fin 16), ?_⟩
    rw [slot_set]
    refine Finset.mem_map_of_mem _ (Rect.mem_set_unit.mpr fun a => ?_)
    have := (y a).isLt
    fin_cases a
    · exact ⟨Nat.le_refl _, Nat.lt_succ_self _⟩
    · exact ⟨Nat.zero_le _, by simpa using this⟩
    · exact ⟨Nat.zero_le _, by simpa using this⟩
    · exact ⟨Nat.zero_le _, by simpa using this⟩

/-- Reading a slot is reading the buffer at the slot's rectangle, -/
theorem slot_read (b : Bool) (i : Fin 16) (f : (wbuf b).view.ty.Contents (Elt F)) (x : S2x256x256.Idx) :
    (slotM b i).view.read (Elt F) f x
      = (wbuf b).view.read (Elt F) f ((slotR i).emb (Shape.reshapeEquiv (squeezes_S1x2x256x256_S2x256x256).numel_eq x)) := rfl

/-- so a half's load answers that half of the slot's contents. -/
theorem half_read (b : Bool) (i : Fin 16) (j : Fin 2) (f : (wbuf b).view.ty.Contents (Elt F)) :
    (wbuf b).view.readAt (Elt F) (halfR i j).toLoadRect f = half j ((slotM b i).view.read (Elt F) f) := by
  funext z
  unfold half
  rw [slot_read, Equiv.apply_symm_apply, ← half_idx]
  rfl

theorem half_mem (b : Bool) (i : Fin 16) (j : Fin 2) :
    (wbuf b).view.setOn (halfR i j).set ⊆ (slotM b i).view.set := by
  rw [slot_set]
  refine Finset.map_subset_map.mpr fun x hx => ?_
  obtain ⟨z, rfl⟩ := (halfR i j).exists_idx_of_mem hx
  rw [half_idx, ← Rect.map_emb_univ]
  exact Finset.mem_map_of_mem _ (Finset.mem_univ _)

/-! ## Cutting and joining -/

/-- A slot's ownership in two half shares, -/
theorem slot_split (b : Bool) (i : Fin 16) (c : Dev nD) (X : Vec F S2x256x256 .bf16) :
    slotP b i c fullShare X ⊢ (iprop(slotP b i c fullShare.left X ∗ slotP b i c fullShare.right X) : sProp 𝕄) := by
  unfold slotP owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

/-- and the two joined again. -/
theorem slot_join (b : Bool) (i : Fin 16) (c : Dev nD) (X Y : Vec F S2x256x256 .bf16) :
    (iprop(slotP b i c fullShare.left X ∗ slotP b i c fullShare.right Y) : sProp 𝕄) ⊢ slotP b i c fullShare X := by
  unfold slotP owns
  iintro ⟨⟨%f, %hf, H1⟩, ⟨%g, %hg, H2⟩⟩
  ihave H := (persistent_entails_right pointsTo_agree) $$ [H1 H2]
  · isplitl [H1]; · iexact H1
    iexact H2
  icases H with ⟨%h, H1, H2⟩
  iexists f; isplitr; · ipureintro; exact hf
  iapply (pointsTo_share (PosShare.mem_left_op_right fullShare)).2
  isplitl [H1]; · iexact H1
  rw [pointsTo_congr (f := f) (g := g) fun i hi => (h i (Finset.mem_inter.mpr ⟨hi, hi⟩)).1]
  iexact H2

/-- A buffer held whole is its slots held each at some contents, -/
theorem slots_of_buf (b : Bool) (c : Dev nD) (f : Buf (Elt F) ((wbuf b).view.loc (c : Thread nD τ))) :
    ((wbuf b).view.loc (c : Thread nD τ) ↦[(wbuf b).view.set]{fullShare} f : sProp 𝕄)
      ⊢ bigSep Finset.univ fun i : Fin 16 => iprop(∃ X, slotP b i c fullShare X) := by
  have h : ∀ i : Fin 16, ((wbuf b).view.loc (c : Thread nD τ) ↦[(slotM b i).view.set]{fullShare} f : sProp 𝕄)
      ⊢ iprop(∃ X, slotP b i c fullShare X) := fun i => by
    iintro H
    iexists ((slotM b i).view.read (Elt F) f)
    unfold slotP
    iapply (owns_intro (c : Thread nD τ) (slotM b i) fullShare f); iexact H
  rw [← slot_cover, pointsTo_biUnion (ℓ := (wbuf b).view.loc (c : Thread nD τ)) Finset.univ (fun i : Fin 16 => (slotM b i).view.set) (fun i _ i' _ h => slot_disjoint b i i' h)]
  exact bigSep_mono fun i _ => h i

/-- and the slots join to the buffer held whole. -/
theorem buf_of_slots (b : Bool) (c : Dev nD) (f₀ : Buf (Elt F) ((wbuf b).view.loc (c : Thread nD τ))) :
    bigSep Finset.univ (fun i : Fin 16 => iprop(∃ X, slotP b i c fullShare X))
      ⊢ (iprop(∃ f, (wbuf b).view.loc (c : Thread nD τ) ↦[(wbuf b).view.set]{fullShare} f) : sProp 𝕄) := by
  have h : ∀ i : Fin 16, (iprop(∃ X, slotP b i c fullShare X) : sProp 𝕄)
      ⊢ iprop(∃ f, (wbuf b).view.loc (c : Thread nD τ) ↦[(slotM b i).view.set]{fullShare} f) := fun i => by
    unfold slotP owns
    iintro ⟨%X, %f, -, H⟩
    iexists f; iexact H
  have : Nonempty (Buf (Elt F) ((wbuf b).view.loc (c : Thread nD τ))) := ⟨f₀⟩
  refine (bigSep_mono fun i _ => h i).trans ((bigSep_exists_pi Finset.univ (fun (i : Fin 16) (f : Buf (Elt F) ((wbuf b).view.loc (c : Thread nD τ))) =>
    ((wbuf b).view.loc (c : Thread nD τ) ↦[(slotM b i).view.set]{fullShare} f : sProp 𝕄))).trans ?_)
  iintro ⟨%fs, H⟩
  ihave H' := (pointsTo_biUnion_join Finset.univ (fun i : Fin 16 => (slotM b i).view.set) fs f₀ (fun i _ i' _ h => slot_disjoint b i i' h)) $$ H
  icases H' with ⟨%g, -, H⟩
  iexists g
  rw [← slot_cover]
  iexact H

/-! ## Filling slot 0 -/

/-- Storing a half of slot 0 sets that half of the slot's contents, -/
theorem half_write (b : Bool) (j : Fin 2) (f : (wbuf b).view.ty.Contents (Elt F)) (w : Vec F S1x1x256x256 .bf16) :
    half j ((slotM b 0).view.read (Elt F) (((wbuf b).access (halfR 0 j)).write (Elt F) f w Finset.univ)) = w := by
  rw [← half_read]
  funext z
  exact View.read_slice_write_emb (v := (wbuf b).view) (halfR 0 j) f w (Finset.mem_univ z)

/-- and leaves the other. -/
theorem half_write_ne (b : Bool) {j j' : Fin 2} (h : j' ≠ j) (f : (wbuf b).view.ty.Contents (Elt F)) (w : Vec F S1x1x256x256 .bf16) :
    half j' ((slotM b 0).view.read (Elt F) (((wbuf b).access (halfR 0 j)).write (Elt F) f w Finset.univ))
      = half j' ((slotM b 0).view.read (Elt F) f) := by
  rw [← half_read, ← half_read]
  funext z
  refine View.read_slice_write_of_not_mem (v := (wbuf b).view) (halfR 0 j) f w Finset.univ ?_
  rw [Rect.map_emb_univ]
  intro hm
  have h1 := (Rect.mem_set_unit.mp hm) 1
  have hz : (z 1).val = 0 := Nat.lt_one_iff.mp (z 1).isLt
  have h2 : ((halfR 0 j').idx z 1).val = j'.val := by simp [hz]
  have h3 : j.val ≤ ((halfR 0 j').idx z 1).val ∧ ((halfR 0 j').idx z 1).val < j.val + 1 := h1
  exact h (Fin.ext (by omega))

/-! ## The rules -/

abbrev 𝒱₀ : Variants := Variants.none

/-- The weakest precondition of a piece of the program on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Rules
variable {α : Type} (c : Dev nD)

/-- A load through a rectangle of an owned memref. -/
theorem wp_loadR {Q : α → sProp 𝕄} {s : Shape} {e : EltTy} {M : Memref sig .tc .vmem s e} {r : LoadRect s} {hl : M.view.LoadsAt r}
    {q : PosShare TreeShare} {V : s.Idx → Elt F e} {k : (r.shape.Idx → Elt F e) → Prog (TpuEff nD τ sig (Elt F) Λ₀ .tc) α} :
    (owns (c : Thread nD τ) M q V : sProp 𝕄)
      ⊢ iprop((owns (c : Thread nD τ) M q V -∗ WP c (k fun x => V (r.idx x)) Q) -∗ WP c (Prog.lift (.load M r hl) >>= k) Q) := by
  simp only [Prog.bind_lift]
  unfold owns
  iintro ⟨%f, %hf, H⟩ Hk
  subst hf
  iapply (wp_load 𝒱₀ (c : Thread nD τ) none Set.univ (m := M) (r := r) (f := f) (q := q) (View.setOn_subset_set _ _)) $$ H
  iintro H
  iapply Hk
  iexists f
  isplitr; · ipureintro; rfl
  iexact H

/-- A store of every element of an owned memref. -/
theorem wp_storeR {Q : α → sProp 𝕄} {s : Shape} {e : EltTy} {M : Memref sig .tc .vmem s e} {r : Rect s} (hr : ∀ x, ∃ y, r.emb y = x) {w : r.shape.Idx → Elt F e} {hx hm}
    {V w' : s.Idx → Elt F e} (hw : ∀ y, w' (r.emb y) = w y) {k : PUnit → Prog (TpuEff nD τ sig (Elt F) Λ₀ .tc) α} :
    (owns (c : Thread nD τ) M fullShare V : sProp 𝕄)
      ⊢ iprop((owns (c : Thread nD τ) M fullShare w' -∗ WP c (k ⟨⟩) Q) -∗ WP c (Prog.lift (.store M r w Finset.univ hx hm) >>= k) Q) := by
  simp only [Prog.bind_lift]
  unfold owns
  iintro ⟨%f, %hf, H⟩ Hk
  iapply (wp_store 𝒱₀ (c : Thread nD τ) none Set.univ (m := M) (r := r) (w := w) (f := f) (S := M.view.set) (View.set_slice_subset _ _)) $$ H
  iintro H
  iapply Hk
  iexists ((M.access r).write (Elt F) f w Finset.univ)
  isplitr
  · ipureintro
    funext x
    obtain ⟨y, rfl⟩ := hr x
    exact (View.read_slice_write_emb (v := M.view) r f w (Finset.mem_univ y)).trans (hw y).symm
  iexact H

/-- A load of a half of an owned slot. -/
theorem wp_loadHalf {Q : α → sProp 𝕄} {b : Bool} {i : Fin 16} {j : Fin 2} {q : PosShare TreeShare} {X : Vec F S2x256x256 .bf16}
    {k : Vec F S1x1x256x256 .bf16 → Prog (TpuEff nD τ sig (Elt F) Λ₀ .tc) α} :
    (slotP b i c q X : sProp 𝕄) ⊢ iprop((slotP b i c q X -∗ WP c (k (half j X)) Q) -∗ WP c (loadHalf b i j >>= k) Q) := by
  simp only [Prog.bind_lift]
  unfold slotP owns
  iintro ⟨%f, %hf, H⟩ Hk
  subst hf
  iapply (wp_load 𝒱₀ (c : Thread nD τ) none Set.univ (m := wbuf b) (r := (halfR i j).toLoadRect) (f := f) (q := q) (half_mem b i j)) $$ H
  iintro H
  rw [half_read]
  iapply Hk
  iexists f
  isplitr; · ipureintro; rfl
  iexact H

/-- A store of a half of slot 0. -/
theorem wp_storeHalf {Q : α → sProp 𝕄} {b : Bool} {j j' : Fin 2} (hj : j' ≠ j) {w : Vec F S1x1x256x256 .bf16} {X : Vec F S2x256x256 .bf16}
    {k : PUnit → Prog (TpuEff nD τ sig (Elt F) Λ₀ .tc) α} :
    (slotP b 0 c fullShare X : sProp 𝕄)
      ⊢ iprop((∀ Y, ⌜half j Y = w ∧ half j' Y = half j' X⌝ -∗ slotP b 0 c fullShare Y -∗ WP c (k ⟨⟩) Q) -∗ WP c (storeHalf b j w >>= k) Q) := by
  simp only [Prog.bind_lift]
  unfold slotP owns
  iintro ⟨%f, %hf, H⟩ Hk
  subst hf
  iapply (wp_store 𝒱₀ (c : Thread nD τ) none Set.univ (m := wbuf b) (r := halfR 0 j) (w := w) (f := f) (S := (slotM b 0).view.set)
    (Mk := Finset.univ) ((View.set_slice (wbuf b).view (halfR 0 j)).trans_subset (half_mem b 0 j))) $$ H
  iintro H
  iapply Hk $$ %((slotM b 0).view.read (Elt F) (((wbuf b).access (halfR 0 j)).write (Elt F) f w Finset.univ)) []
  · ipureintro; exact ⟨half_write b j f w, half_write_ne b hj f w⟩
  iexists (((wbuf b).access (halfR 0 j)).write (Elt F) f w Finset.univ)
  isplitr; · ipureintro; rfl
  iexact H

end Rules

end Cert.KernelIdeal.Ring

end
-- ==== Proof.K.Steps.lean ====
/-
The protocol's steps: a wait for each kind of cell, a signal to each, a transfer to the neighbour, and what
one hop of one direction takes and gives.
-/
module

public import proofs.«01_k».proof.Proof.K.Slots

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Idealize.SL.BI.Laws
open Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The shared records -/

variable (K : Dev nD × CK → ℕ)

/-- What every device knows throughout: the invariant of every cell, that round 0 of every cell is reached, and the levels. -/
def Recs : sProp 𝕄 :=
  iprop((bigSep Finset.univ fun ck : Dev nD × CK => cellInv ER (ringRd m) (K ck) (cell ck.1 ck.2))
    ∗ (bigSep Finset.univ fun ck : Dev nD × CK => reached ER (cell ck.1 ck.2) 0) ∗ levAts L lv)

instance Recs_persistent : BI.Persistent (Recs m K) := by unfold Recs; infer_instance

theorem recs_inv (c : Dev nD) (k : CK) : Recs m K ⊢ cellInv ER (ringRd m) (K (c, k)) (cell c k) := by
  unfold Recs
  iintro ⟨H, -, -⟩
  iapply (show (bigSep Finset.univ fun ck : Dev nD × CK => (cellInv ER (ringRd m) (K ck) (cell ck.1 ck.2) : sProp 𝕄))
    ⊢ cellInv ER (ringRd m) (K (c, k)) (cell c k) from bigSep_elim (Finset.mem_univ (c, k))) $$ H
theorem recs_reached (c : Dev nD) (k : CK) : Recs m K ⊢ reached ER (cell c k) 0 := by
  unfold Recs
  iintro ⟨-, H, -⟩
  iapply (show (bigSep Finset.univ fun ck : Dev nD × CK => (reached ER (cell ck.1 ck.2) 0 : sProp 𝕄))
    ⊢ reached ER (cell c k) 0 from bigSep_elim (Finset.mem_univ (c, k))) $$ H
theorem recs_lev : Recs m K ⊢ levAts L lv := by
  unfold Recs
  iintro ⟨-, -, H⟩
  iexact H

/-- What a device owes, whatever it waited for before. -/
def ow (c : Dev nD) (O : CellTallies nD τ sig ℕ) : sProp 𝕄 := iprop(∃ W, owes (c : Thread nD τ) O W)

section Waits
variable {α : Type} (c : Dev nD)

/-- A wait for the whole of a round of one of the device's own cells. -/
theorem wp_waitCell {Q : α → sProp 𝕄} {w : TpuEff nD τ sig (Elt F) Λ₀ .tc PUnit} (k : CK) {n r lvl : ℕ} {pay : sProp 𝕄} {O : CellTallies nD τ sig ℕ}
    (hw : ∀ P : PUnit → sProp 𝕄, wpE (defs₀ (F := F)) 𝒱₀ (c : Thread nD τ) none Set.univ w P = waitSpec (c : Thread nD τ) Set.univ (csem k) n P)
    (hn : (ringRd m).expect (cell c k) r = n)
    (hpay : bigSep ((ringRd m).duties (cell c k) r \ ∅) (fun d => (ringRd m).payload (cell c k) r d) = pay)
    (hr : r < 3) (hlv : lvK k r ≤ lvl) (hO : Above lvl O) {p : PUnit → Prog (TpuEff nD τ sig (Elt F) Λ₀ .tc) α} :
    iprop(Recs m K ∗ cred (tallyAt (cell c k) r n) ∗ ow c O ∗ atPos ER (cell c k) r ∅ 0)
      ⊢ iprop((ow c O ∗ atPos ER (cell c k) (r + 1) ∅ 0 ∗ reached ER (cell c k) (r + 1) ∗ pay -∗ WP c (p ⟨⟩) Q) -∗ WP c (.op w p) Q) := by
  subst hpay
  unfold ow
  iintro ⟨#HR, Hc, ⟨%W, HO⟩, Ha⟩ Hk
  iapply (Rounds.wp_wait_rest_token 𝒱₀ ER (ringRd m) (c : Thread nD τ) none (κ := K (c, k)) hw (Set.mem_univ _) r
    (O := O) (W := W) (R := r) (m := 0) (T := ∅) (by rw [Nat.zero_add]; exact hn.symm)) $$ [Hc HO Ha]
  · isplitr; · iapply (recs_inv m K c k); iexact HR
    isplitl [Hc]; · iexact Hc
    isplitl [HO]; · iexact HO
    isplitr
    · iapply (mayWait c (csem k) r hr (by rw [lv_cell c k r]; exact hlv) hO)
      iapply (recs_lev m K); iexact HR
    iexact Ha
  iintro ⟨HO, H⟩
  iapply Hk
  isplitl [HO]; · iexists _; iexact HO
  iexact H

/-- A signal to a cell of another device. -/
theorem wp_signalCell {Q : α → sProp 𝕄} (d n : Dev nD) (hn : n = d) (k : CK) {s : Sem sig} (hs : csem k = .reg s) {r : ℕ} {b : Bool} {O : CellTallies nD τ sig ℕ}
    (hb : b ∈ dutiesK k r) (ha : amountK k = 1) {p : PUnit → Prog (TpuEff nD τ sig (Elt F) Λ₀ .tc) α} :
    iprop(Recs m K ∗ ow c (O + tallyAt (cell d k) r 1) ∗ dutyTok ER (cell d k) r b ∗ payK m k d r b ∗ reached ER (cell d k) r)
      ⊢ iprop((ow c O -∗ WP c (p ⟨⟩) Q) -∗ WP c (.op (.semSignal ((n : Dev nD), .tc) s 1) p) Q) := by
  subst hn
  have hcell : cell n k = ((n : Thread nD τ), .reg s) := by unfold cell; rw [hs]
  unfold ow
  iintro ⟨#HR, ⟨%W, HO⟩, Ht, Hp, Hr⟩ Hk
  iapply (Rounds.wp_signal 𝒱₀ ER (ringRd m) (c : Thread nD τ) none (dst := (n : Thread nD τ)) (sem := s) (r := r) (κ := K (n, k))
      (d := b) (k' := 1) (by rw [← hcell, duties_cell]; exact hb) (by rw [← hcell, amount_cell]; exact ha) r (O₀ := O + tallyAt (cell n k) r 1) O (by rw [hcell])) $$ [HO Ht Hp Hr]
  · isplitr; · rw [← hcell]; iapply (recs_inv m K n k); iexact HR
    isplitl [HO]; · iexact HO
    isplitl [Ht]; · rw [← hcell]; iexact Ht
    isplitl [Hp]; · rw [← hcell, payload_cell]; iexact Hp
    rw [← hcell]; iexact Hr
  iintro HO
  iapply Hk
  iexists W; iexact HO

end Waits

/-! ## One hop of one direction -/

/-- The positions and marks of hop `s`'s two cells at round `l`. -/
def Own (l : ℕ) (b : Bool) (s : ℕ) (c : Dev nD) : sProp 𝕄 :=
  iprop(atPos ER (cell c (kSend b (se s))) l ∅ 0 ∗ atPos ER (cell c (kRecv b (se s))) l ∅ 0
    ∗ reached ER (cell c (kSend b (se s))) l ∗ reached ER (cell c (kRecv b (se s))) l)

/-- What hop `s` of layer `l` spends: its two duties and the credit of the landing it will receive. -/
def Tok (l : ℕ) (b : Bool) (s : ℕ) (c : Dev nD) : sProp 𝕄 :=
  iprop(dutyTok ER (cell c (kSend b (se s))) l false ∗ dutyTok ER (cell (nbr b c) (kRecv b (se s))) l false
    ∗ cred (tallyAt (cell c (kRecv b (se s))) l N))

/-- The neighbour's slot that hop `s` writes. -/
def Dst (l : ℕ) (b : Bool) (s : ℕ) (c : Dev nD) : sProp 𝕄 :=
  iprop((∃ X, slotP b (sl (s + 1)) (nbr b c) fullShare X) ∗ reached ER (cell (nbr b c) (kRecv b (se s))) l)

/-- Before hop `s`, -/
def P0 (l : ℕ) (b : Bool) (s : ℕ) (c : Dev nD) : sProp 𝕄 := iprop(Own l b s c ∗ Tok l b s c ∗ Dst l b s c)

/-- while it is in flight, half of the slot sent staying with the device, -/
def P1 (l : ℕ) (b : Bool) (s : ℕ) (c : Dev nD) : sProp 𝕄 :=
  iprop(atPos ER (cell c (kSend b (se s))) l ∅ 0 ∗ atPos ER (cell c (kRecv b (se s))) l ∅ 0
    ∗ cred (tallyAt (cell c (kSend b (se s))) l N) ∗ cred (tallyAt (cell c (kRecv b (se s))) l N)
    ∗ slotP b (sl s) c fullShare.left (WT m l b (src b s c)))

/-- and after it. -/
def P2 (l : ℕ) (b : Bool) (s : ℕ) (c : Dev nD) : sProp 𝕄 := iprop(Own (l + 1) b s c ∗ ∃ X, slotP b (sl s) c fullShare X)

section Hop
variable {α : Type} (c : Dev nD)

/-- The transfer of slot `s` to the neighbour, addressed to `n`. -/
theorem wp_sendSlot {Q : α → sProp 𝕄} (n : Dev nD) (b : Bool) (hn : n = nbr b c) (l s : ℕ) (hl : l < 3) (hs : s < 15) {O : CellTallies nD τ sig ℕ}
    {hsc : (slotM b (sl (s + 1)) : Memref sig (Dev.tc n : Thread nD τ).2.kind .vmem S2x256x256 .bf16).view.ref.isScScratch = false}
    {hsrc : (slotM b (sl s)).view.WordExact} {hdst : (slotM b (sl (s + 1))).view.WordExact}
    {hsem : DmaTarget.Typed .vmem (.dma (recvS b (se s))) (.remote (Dev.tc n : Thread nD τ) (slotM b (sl (s + 1))) (.dma (sendS b (se s))) hsc)}
    {p : PUnit → Prog (TpuEff nD τ sig (Elt F) Λ₀ .tc) α} :
    iprop(Recs m K ∗ reached ER (cell c (kCred b)) l ∗ slotP b (sl s) c fullShare (WT m l b (src b s c)) ∗ P0 l b s c ∗ ow c (O + hopO c l s b))
      ⊢ iprop((P1 m l b s c ∗ ow c O -∗ WP c (p ⟨⟩) Q) -∗
        WP c (.op (.enqueueDma (slotM b (sl s)) (.remote (Dev.tc n : Thread nD τ) (slotM b (sl (s + 1))) (.dma (sendS b (se s))) hsc)
          (.dma (recvS b (se s))) hsrc hdst hsem) p) Q) := by
  subst hn
  have hse : (se s).val = s := Nat.mod_eq_of_lt hs
  unfold P0 Own Tok Dst ow hopO
  iintro ⟨#HR, #Hcr, Hs, ⟨⟨HaS, HaV, HrS, -⟩, ⟨HtS, HtV, HcV⟩, ⟨%Y, Hd⟩, HrV⟩, ⟨%W, HO⟩⟩ Hk
  ihave Hs' := (slot_split b (sl s) c (WT m l b (src b s c))) $$ Hs
  icases Hs' with ⟨HsL, HsR⟩
  ihave HsR' := (show slotP b (sl s) c fullShare.right (WT m l b (src b s c))
    ⊢ (iprop(∃ f, ⌜(slotM b (sl s)).view.read (Elt F) f = WT m l b (src b s c)⌝
      ∗ ((slotM b (sl s)).view.loc (c : Thread nD τ) ↦[(slotM b (sl s)).view.set]{fullShare.right} f)) : sProp 𝕄) from by
        unfold slotP owns; exact .rfl) $$ HsR
  icases HsR' with ⟨%fs, %hfs, HsR⟩
  ihave Hd' := (show slotP b (sl (s + 1)) (nbr b c) fullShare Y
    ⊢ (iprop(∃ f, ⌜(slotM b (sl (s + 1))).view.read (Elt F) f = Y⌝
      ∗ ((slotM b (sl (s + 1))).view.loc (nbr b c : Thread nD τ) ↦[(slotM b (sl (s + 1))).view.set]{fullShare} f)) : sProp 𝕄) from by
        unfold slotP owns; exact .rfl) $$ Hd
  icases Hd' with ⟨%fd, -, Hd⟩
  iapply (Rounds.wp_send_pointsTo_with 𝒱₀ ER (ringRd m) (c : Thread nD τ) none (κ₁ := K (c, kSend b (se s))) (κ₂ := K (nbr b c, kRecv b (se s)))
    (c' := (nbr b c : Thread nD τ)) (src := slotM b (sl s)) (dst := slotM b (sl (s + 1))) (sS := .dma (sendS b (se s))) (sem := .dma (recvS b (se s)))
    (r₁ := l) (r₂ := l) (d₁ := false) (d₂ := false) (fs := fs) (fd := fd) (q := fullShare.right) (F := reached ER (cell c (kCred b)) l)
    (by show false ∈ (ringRd m).duties (cell c (kSend b (se s))) l; rw [duties_xfer m c _ hl]; exact Finset.mem_singleton_self _)
    (by show false ∈ (ringRd m).duties (cell (nbr b c) (kRecv b (se s))) l; rw [duties_xfer m _ _ hl]; exact Finset.mem_singleton_self _)
    l l N (slot_credit b _) (amount_cell m c (kSend b (se s)) l false) (amount_cell m (nbr b c) (kRecv b (se s)) l false) O rfl (W := W)
    (by
      show _ ⊢ (ringRd m).payload (cell c (kSend b (se s))) l false
      rw [payload_cell]
      show _ ⊢ sendPay m l b (se s).val c
      rw [hse]
      unfold sendPay slotP
      rw [← hfs]
      exact owns_intro (c : Thread nD τ) (slotM b (sl s)) fullShare.right fs)
    (by
      show _ ⊢ (ringRd m).payload (cell (nbr b c) (kRecv b (se s))) l false
      rw [payload_cell]
      show _ ⊢ recvPay m l b (se s).val (nbr b c)
      rw [hse]
      unfold recvPay slotP
      rw [up_nbr, src_succ, ← hfs]
      refine sep_mono_left ?_
      have h := owns_intro (Ix := ℕ) (Name := ℕ) (U := UU) (Lvl := ℕ) (nbr b c : Thread nD τ) (slotM b (sl (s + 1))) fullShare
        ((slotM b (sl (s + 1))).view.write (Elt F) fd ((slotM b (sl s)).view.read (Elt F) fs) Finset.univ)
      rw [View.read_write_univ] at h
      exact h)) $$ [HsR Hd HO HtS HrS HtV HrV]
  · isplitr; · iapply (recs_inv m K c (kSend b (se s))); iexact HR
    isplitr; · iapply (recs_inv m K (nbr b c) (kRecv b (se s))); iexact HR
    isplitl [HsR]; · iexact HsR
    isplitl [Hd]
    · isplitl [Hd]; · iexact Hd
      iexact Hcr
    isplitl [HO]; · iexact HO
    isplitl [HtS]; · iexact HtS
    isplitl [HrS]; · iexact HrS
    isplitl [HtV]; · iexact HtV
    iexact HrV
  iintro ⟨HcS, HO⟩
  iapply Hk
  isplitr [HO]
  · unfold P1
    isplitl [HaS]; · iexact HaS
    isplitl [HaV]; · iexact HaV
    isplitl [HcS]; · iexact HcS
    isplitl [HcV]; · iexact HcV
    iexact HsL
  · iexists W; iexact HO

/-- Starting hop `s`. -/
theorem wp_startB {Q : α → sProp 𝕄} (b : Bool) (l s : ℕ) (hl : l < 3) (hs : s < 15) {O : CellTallies nD τ sig ℕ}
    {p : PUnit → Prog (TpuEff nD τ sig (Elt F) Λ₀ .tc) α} :
    iprop(Recs m K ∗ reached ER (cell c (kCred b)) l ∗ slotP b (sl s) c fullShare (WT m l b (src b s c)) ∗ P0 l b s c ∗ ow c (O + hopO c l s b))
      ⊢ iprop((P1 m l b s c ∗ ow c O -∗ WP c (p ⟨⟩) Q) -∗ WP c (startB c s b >>= p) Q) := by
  unfold startB
  simp only [Prog.bind_lift]
  exact wp_sendSlot m K c (toDev c b) b (toDev_eq c b) l s hl hs

/-- Waiting for the two ends of hop `s`. -/
theorem wp_waitsB {Q : α → sProp 𝕄} (b : Bool) (l s : ℕ) (hl : l < 3) (hs : s < 15) {O : CellTallies nD τ sig ℕ} (hO : Above (20 * l + 2 + s) O)
    {p : PUnit → Prog (TpuEff nD τ sig (Elt F) Λ₀ .tc) α} :
    iprop(Recs m K ∗ P1 m l b s c ∗ ow c O)
      ⊢ iprop((Own (l + 1) b s c ∗ slotP b (sl s) c fullShare (WT m l b (src b s c)) ∗ slotP b (sl (s + 1)) c fullShare (WT m l b (src b (s + 1) c))
          ∗ reached ER (cell (up b c) (kCred b)) l ∗ ow c O -∗ WP c (p ⟨⟩) Q) -∗ WP c (waitsB s b >>= p) Q) := by
  have hse : (se s).val = s := Nat.mod_eq_of_lt hs
  unfold waitsB P1
  simp only [Prog.bind_lift, Prog.bind_op]
  iintro ⟨#HR, ⟨HaS, HaV, HcS, HcV, HsL⟩, HO⟩ Hk
  iapply (wp_waitCell m K c (kSend b (se s)) (n := N) (r := l) (lvl := 20 * l + 2 + s) (O := O)
    (fun P => by rw [← slot_credit b (sl s)]; exact wpE_waitDma2_eq 𝒱₀ (c : Thread nD τ) none Set.univ P)
    (expect_xfer m c _ hl) (rest_xfer m c _ hl) hl (Nat.zero_le _) hO) $$ [HcS HO HaS]
  · isplitr; · iexact HR
    isplitl [HcS]; · iexact HcS
    isplitl [HO]; · iexact HO
    iexact HaS
  iintro ⟨HO, HaS, HrS, Hp⟩
  ihave HsR := (show payK m (kSend b (se s)) c l false ⊢ slotP b (sl s) c fullShare.right (WT m l b (src b s c)) from by
    show sendPay m l b (se s).val c ⊢ _
    rw [hse]; unfold sendPay; exact .rfl) $$ Hp
  ihave Hs := (slot_join b (sl s) c _ _) $$ [HsL HsR]
  · isplitl [HsL]; · iexact HsL
    iexact HsR
  iapply (wp_waitCell m K c (kRecv b (se s)) (n := N) (r := l) (lvl := 20 * l + 2 + s) (O := O)
    (fun P => by rw [← slot_credit b (sl (s + 1))]; exact wpE_waitDma2_eq 𝒱₀ (c : Thread nD τ) none Set.univ P)
    (expect_xfer m c _ hl) (rest_xfer m c _ hl) hl (by show 20 * l + 2 + (se s).val ≤ _; rw [hse]) hO) $$ [HcV HO HaV]
  · isplitr; · iexact HR
    isplitl [HcV]; · iexact HcV
    isplitl [HO]; · iexact HO
    iexact HaV
  iintro ⟨HO, HaV, HrV, Hp⟩
  ihave Hp' := (show payK m (kRecv b (se s)) c l false
      ⊢ iprop(slotP b (sl (s + 1)) c fullShare (WT m l b (src b (s + 1) c)) ∗ reached ER (cell (up b c) (kCred b)) l) from by
    show recvPay m l b (se s).val c ⊢ _
    rw [hse]; unfold recvPay; exact .rfl) $$ Hp
  icases Hp' with ⟨Hn, Hc⟩
  iapply Hk
  isplitl [HaS HaV HrS HrV]
  · unfold Own
    isplitl [HaS]; · iexact HaS
    isplitl [HaV]; · iexact HaV
    isplitl [HrS] <;> iassumption
  isplitl [Hs]; · iexact Hs
  isplitl [Hn]; · iexact Hn
  isplitl [Hc]; · iexact Hc
  iexact HO

end Hop

end Cert.KernelIdeal.Ring

end
-- ==== Proof.K.Layer.lean ====
/-
One layer of the kernel on device `c`: filling slot 0 with the rounded halves of the own weights, the
product with the own blocks, and the fifteen hops, each followed by the contribution of the slot it brought.
-/
module

public import proofs.«01_k».proof.Proof.K.Steps

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Idealize.SL.BI.Laws
open Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The values -/

/-- The accumulator of layer `l` on device `c` for the activations `X`, after the slots up to `s` of both directions. -/
def accV (l : ℕ) (c : Dev nD) (X : Vec F S512x256 .f32) : ℕ → Vec F S512x256 .f32
  | 0 => k0_pay9 X (winV m l c) (woutV m l c)
  | s + 1 =>
    contrib (k0_pay8 X) (half 0 (WT m l false (src false (s + 1) c)))
      (contrib (k0_pay8 X) (half 0 (WT m l true (src true (s + 1) c))) (accV l c X s) (half 1 (WT m l true (src true (s + 1) c))))
      (half 1 (WT m l false (src false (s + 1) c)))

/-- The activations before layer `l`. -/
def actV (c : Dev nD) : ℕ → Vec F S512x256 .f32
  | 0 => k0_pay2 (xV m c)
  | l + 1 => k0_pay55 (accV m l c (actV c l) 15)

/-- The kernel's result on device `c`. -/
def outV (c : Dev nD) : Vec F S512x256 .f32 := accV m 2 c (actV m c 2) 15

/-! ## Whole buffers -/

theorem fullR_idx (x : fullR.toLoadRect.shape.Idx) : fullR.toLoadRect.idx x = x := by
  funext a
  apply Fin.ext
  fin_cases a <;> simp
theorem fullRt_idx (x : fullRt.toLoadRect.shape.Idx) : fullRt.toLoadRect.idx x = x := by
  funext a
  apply Fin.ext
  fin_cases a <;> simp

section Full
variable {α : Type} (c : Dev nD)

theorem wp_loadFull {Q : α → sProp 𝕄} {e : EltTy} {M : Memref sig .tc .vmem S512x256 e} {hl : M.view.LoadsAt fullR.toLoadRect}
    {q : PosShare TreeShare} {V : Vec F S512x256 e} {k : Vec F S512x256 e → Prog (TpuEff nD τ sig (Elt F) Λ₀ .tc) α} :
    (owns (c : Thread nD τ) M q V : sProp 𝕄)
      ⊢ iprop((owns (c : Thread nD τ) M q V -∗ WP c (k V) Q) -∗ WP c (Prog.lift (.load M fullR.toLoadRect hl) >>= k) Q) := by
  have h := wp_loadR (F := F) c (Q := Q) (M := M) (r := fullR.toLoadRect) (hl := hl) (q := q) (V := V) (k := k)
  rwa [show (fun x => V (fullR.toLoadRect.idx x)) = V from funext fun x => congrArg V (fullR_idx x)] at h

theorem wp_loadFullT {Q : α → sProp 𝕄} {e : EltTy} {M : Memref sig .tc .vmem S256x512 e} {hl : M.view.LoadsAt fullRt.toLoadRect}
    {q : PosShare TreeShare} {V : Vec F S256x512 e} {k : Vec F S256x512 e → Prog (TpuEff nD τ sig (Elt F) Λ₀ .tc) α} :
    (owns (c : Thread nD τ) M q V : sProp 𝕄)
      ⊢ iprop((owns (c : Thread nD τ) M q V -∗ WP c (k V) Q) -∗ WP c (Prog.lift (.load M fullRt.toLoadRect hl) >>= k) Q) := by
  have h := wp_loadR (F := F) c (Q := Q) (M := M) (r := fullRt.toLoadRect) (hl := hl) (q := q) (V := V) (k := k)
  rwa [show (fun x => V (fullRt.toLoadRect.idx x)) = V from funext fun x => congrArg V (fullRt_idx x)] at h

theorem wp_storeFull {Q : α → sProp 𝕄} {e : EltTy} {M : Memref sig .tc .vmem S512x256 e} {V w : Vec F S512x256 e} {hx hm}
    {k : PUnit → Prog (TpuEff nD τ sig (Elt F) Λ₀ .tc) α} :
    (owns (c : Thread nD τ) M fullShare V : sProp 𝕄)
      ⊢ iprop((owns (c : Thread nD τ) M fullShare w -∗ WP c (k ⟨⟩) Q) -∗ WP c (Prog.lift (.store M fullR w Finset.univ hx hm) >>= k) Q) :=
  wp_storeR (F := F) c (fun x => ⟨x, fullR_idx x⟩) (fun y => congrArg w (fullR_idx y))

/-! ## The pieces of a layer -/

/-- A buffer held whole at some contents. -/
abbrev some_ {s : Shape} {e : EltTy} (M : Memref sig .tc .vmem s e) : sProp 𝕄 :=
  iprop(∃ V, owns (c : Thread nD τ) M fullShare V)

/-- The own weights of layer `l`. -/
def wts (l : ℕ) : sProp 𝕄 :=
  iprop(owns (c : Thread nD τ) (winM l) fullShare (winV m l c) ∗ owns (c : Thread nD τ) (woutM l) fullShare (woutV m l c))

theorem wp_loadX {Q : α → sProp 𝕄} {x : Vec F S512x256 .f32} {k : PUnit → Prog (TpuEff nD τ sig (Elt F) Λ₀ .tc) α} :
    iprop(owns (c : Thread nD τ) xin fullShare x ∗ some_ c xcur)
      ⊢ iprop((owns (c : Thread nD τ) xin fullShare x ∗ owns (c : Thread nD τ) xcur fullShare (k0_pay2 x) -∗ WP c (k ⟨⟩) Q) -∗ WP c (loadX >>= k) Q) := by
  unfold loadX
  simp only [Prog.bind_assoc]
  iintro ⟨Hx, ⟨%V, Hc⟩⟩ Hk
  iapply (wp_loadFull c) $$ Hx; iintro Hx
  iapply (wp_loadFull c) $$ Hc; iintro Hc
  iapply (wp_storeFull c) $$ Hc; iintro Hc
  iapply Hk
  isplitl [Hx] <;> iassumption

theorem wp_fillB {Q : α → sProp 𝕄} (l : ℕ) (b : Bool) {k : PUnit → Prog (TpuEff nD τ sig (Elt F) Λ₀ .tc) α} :
    iprop(wts m c l ∗ ∃ X, slotP b (sl 0) c fullShare X)
      ⊢ iprop((wts m c l ∗ slotP b (sl 0) c fullShare (WT m l b c) -∗ WP c (k ⟨⟩) Q) -∗ WP c (fillB l b >>= k) Q) := by
  have hl1 : ∀ {Q : α → sProp 𝕄} {k : Vec F S256x256 .f32 → Prog (TpuEff nD τ sig (Elt F) Λ₀ .tc) α},
      (owns (c : Thread nD τ) (winM l) fullShare (winV m l c) : sProp 𝕄)
        ⊢ iprop((owns (c : Thread nD τ) (winM l) fullShare (winV m l c) -∗ WP c (k (winPart m l b c)) Q) -∗ WP c (loadWin l b >>= k) Q) := by
    intro Q k
    cases b
    · exact wp_loadR (F := F) c (M := winM l) (r := (winR false)) (V := winV m l c) (k := k)
    · exact wp_loadR (F := F) c (M := winM l) (r := (winR true)) (V := winV m l c) (k := k)
  have hl2 : ∀ {Q : α → sProp 𝕄} {k : Vec F S256x256 .f32 → Prog (TpuEff nD τ sig (Elt F) Λ₀ .tc) α},
      (owns (c : Thread nD τ) (woutM l) fullShare (woutV m l c) : sProp 𝕄)
        ⊢ iprop((owns (c : Thread nD τ) (woutM l) fullShare (woutV m l c) -∗ WP c (k (woutPart m l b c)) Q) -∗ WP c (loadWout l b >>= k) Q) := by
    intro Q k
    cases b
    · exact wp_loadR (F := F) c (M := woutM l) (r := (woutR false)) (V := woutV m l c) (k := k)
    · exact wp_loadR (F := F) c (M := woutM l) (r := (woutR true)) (V := woutV m l c) (k := k)
  have h10 : (1 : Fin 2) ≠ 0 := by decide
  have h01 : (0 : Fin 2) ≠ 1 := by decide
  unfold fillB wts
  simp only [Prog.bind_assoc]
  iintro ⟨⟨Hi, Ho⟩, ⟨%X, Hs⟩⟩ Hk
  ihave Hs := (show slotP b (sl 0) c fullShare X ⊢ (slotP b 0 c fullShare X : sProp 𝕄) from .rfl) $$ Hs
  iapply hl1 $$ Hi; iintro Hi
  iapply (wp_loadHalf c) $$ Hs; iintro Hs
  iapply (wp_storeHalf c h10) $$ Hs
  iintro %Y %hY Hs
  iapply hl2 $$ Ho; iintro Ho
  iapply (wp_loadHalf c) $$ Hs; iintro Hs
  iapply (wp_storeHalf c h01) $$ Hs
  iintro %Z %hZ Hs
  have hW : Z = WT m l b c := by
    rw [eq_pairV Z, hZ.1, hZ.2, hY.1]; rfl
  subst hW
  iapply Hk
  isplitl [Hi Ho]
  · isplitl [Hi] <;> iassumption
  iexact Hs

theorem wp_roundX {Q : α → sProp 𝕄} {x : Vec F S512x256 .f32} {k : PUnit → Prog (TpuEff nD τ sig (Elt F) Λ₀ .tc) α} :
    iprop(owns (c : Thread nD τ) xcur fullShare x ∗ some_ c xbf)
      ⊢ iprop((owns (c : Thread nD τ) xcur fullShare x ∗ owns (c : Thread nD τ) xbf fullShare (k0_pay8 x) -∗ WP c (k ⟨⟩) Q) -∗ WP c (roundX >>= k) Q) := by
  unfold roundX
  simp only [Prog.bind_assoc]
  iintro ⟨Hx, ⟨%V, Hc⟩⟩ Hk
  iapply (wp_loadFull c) $$ Hx; iintro Hx
  iapply (wp_loadFull c) $$ Hc; iintro Hc
  iapply (wp_storeFull c) $$ Hc; iintro Hc
  iapply Hk
  isplitl [Hx] <;> iassumption

theorem wp_fill {Q : α → sProp 𝕄} (l : ℕ) {x : Vec F S512x256 .f32} {k : PUnit → Prog (TpuEff nD τ sig (Elt F) Λ₀ .tc) α} :
    iprop(wts m c l ∗ owns (c : Thread nD τ) xcur fullShare x ∗ some_ c xbf ∗ (∃ X, slotP true (sl 0) c fullShare X) ∗ (∃ X, slotP false (sl 0) c fullShare X))
      ⊢ iprop((wts m c l ∗ owns (c : Thread nD τ) xcur fullShare x ∗ owns (c : Thread nD τ) xbf fullShare (k0_pay8 x)
          ∗ slotP true (sl 0) c fullShare (WT m l true c) ∗ slotP false (sl 0) c fullShare (WT m l false c) -∗ WP c (k ⟨⟩) Q) -∗ WP c (fill l >>= k) Q) := by
  unfold fill
  simp only [Prog.bind_assoc]
  iintro ⟨Hw, Hx, Hb, Ht, Hf⟩ Hk
  iapply (wp_fillB m c l true) $$ [Hw Ht]
  · isplitl [Hw] <;> iassumption
  iintro ⟨Hw, Ht⟩
  iapply (wp_fillB m c l false) $$ [Hw Hf]
  · isplitl [Hw] <;> iassumption
  iintro ⟨Hw, Hf⟩
  iapply (wp_roundX c) $$ [Hx Hb]
  · isplitl [Hx] <;> iassumption
  iintro ⟨Hx, Hb⟩
  iapply Hk
  isplitl [Hw]; · iexact Hw
  isplitl [Hx]; · iexact Hx
  isplitl [Hb]; · iexact Hb
  isplitl [Ht] <;> iassumption

theorem wp_localMul {Q : α → sProp 𝕄} (l : ℕ) {x : Vec F S512x256 .f32} {k : PUnit → Prog (TpuEff nD τ sig (Elt F) Λ₀ .tc) α} :
    iprop(wts m c l ∗ owns (c : Thread nD τ) xcur fullShare x ∗ some_ c accM)
      ⊢ iprop((wts m c l ∗ owns (c : Thread nD τ) xcur fullShare x ∗ owns (c : Thread nD τ) accM fullShare (accV m l c x 0) -∗ WP c (k ⟨⟩) Q)
          -∗ WP c (localMul l >>= k) Q) := by
  unfold localMul wts
  simp only [Prog.bind_assoc]
  iintro ⟨⟨Hi, Ho⟩, Hx, ⟨%V, Ha⟩⟩ Hk
  iapply (wp_loadFull c) $$ Hx; iintro Hx
  iapply (wp_loadFullT c) $$ Hi; iintro Hi
  iapply (wp_loadFull c) $$ Ho; iintro Ho
  iapply (wp_loadFull c) $$ Ha; iintro Ha
  iapply (wp_storeFull c) $$ Ha; iintro Ha
  iapply Hk
  isplitl [Hi Ho]
  · isplitl [Hi] <;> iassumption
  isplitl [Hx]; · iexact Hx
  iexact Ha

theorem wp_contribB {Q : α → sProp 𝕄} (b : Bool) (j : ℕ) {q : PosShare TreeShare} {xb : Vec F S512x256 .bf16} {a : Vec F S512x256 .f32} {X : Vec F S2x256x256 .bf16}
    {k : PUnit → Prog (TpuEff nD τ sig (Elt F) Λ₀ .tc) α} :
    iprop(owns (c : Thread nD τ) xbf fullShare xb ∗ owns (c : Thread nD τ) accM fullShare a ∗ slotP b (sl j) c q X)
      ⊢ iprop((owns (c : Thread nD τ) xbf fullShare xb ∗ owns (c : Thread nD τ) accM fullShare (contrib xb (half 0 X) a (half 1 X)) ∗ slotP b (sl j) c q X -∗ WP c (k ⟨⟩) Q)
          -∗ WP c (contribB j b >>= k) Q) := by
  unfold contribB
  simp only [Prog.bind_assoc]
  iintro ⟨Hx, Ha, Hs⟩ Hk
  iapply (wp_loadFull c) $$ Hx; iintro Hx
  iapply (wp_loadHalf c) $$ Hs; iintro Hs
  iapply (wp_loadFull c) $$ Ha; iintro Ha
  iapply (wp_loadHalf c) $$ Hs; iintro Hs
  iapply (wp_loadFull c) $$ Ha; iintro Ha
  iapply (wp_storeFull c) $$ Ha; iintro Ha
  iapply Hk
  isplitl [Hx]; · iexact Hx
  isplitl [Ha]; · iexact Ha
  iexact Hs

/-- The contributions of slot `s + 1` of both directions, at whatever share the slots are held. -/
theorem wp_contribs {Q : α → sProp 𝕄} (l s : ℕ) {q : PosShare TreeShare} {x : Vec F S512x256 .f32}
    {k : PUnit → Prog (TpuEff nD τ sig (Elt F) Λ₀ .tc) α} :
    iprop(owns (c : Thread nD τ) xbf fullShare (k0_pay8 x) ∗ owns (c : Thread nD τ) accM fullShare (accV m l c x s)
        ∗ slotP true (sl (s + 1)) c q (WT m l true (src true (s + 1) c)) ∗ slotP false (sl (s + 1)) c q (WT m l false (src false (s + 1) c)))
      ⊢ iprop((owns (c : Thread nD τ) xbf fullShare (k0_pay8 x) ∗ owns (c : Thread nD τ) accM fullShare (accV m l c x (s + 1))
        ∗ slotP true (sl (s + 1)) c q (WT m l true (src true (s + 1) c)) ∗ slotP false (sl (s + 1)) c q (WT m l false (src false (s + 1) c)) -∗ WP c (k ⟨⟩) Q)
          -∗ WP c (contribs (s + 1) >>= k) Q) := by
  unfold contribs
  simp only [Prog.bind_assoc]
  iintro ⟨Hx, Ha, Ht, Hf⟩ Hk
  iapply (wp_contribB c true (s + 1)) $$ [Hx Ha Ht]
  · isplitl [Hx]; · iexact Hx
    isplitl [Ha] <;> iassumption
  iintro ⟨Hx, Ha, Ht⟩
  iapply (wp_contribB c false (s + 1)) $$ [Hx Ha Hf]
  · isplitl [Hx]; · iexact Hx
    isplitl [Ha] <;> iassumption
  iintro ⟨Hx, Ha, Hf⟩
  iapply Hk
  isplitl [Hx]; · iexact Hx
  isplitl [Ha]; · iexact Ha
  isplitl [Ht] <;> iassumption

end Full

/-! ## The hops -/

section Hops
variable {α : Type} (K : Dev nD × CK → ℕ) (c : Dev nD)

/-- A separating conjunction of `n` terms from the `j`-th on. -/
def sepFrom (Φ : ℕ → sProp 𝕄) : ℕ → ℕ → sProp 𝕄
  | 0, _ => iprop(emp)
  | n + 1, j => iprop(Φ j ∗ sepFrom Φ n (j + 1))

theorem sepFrom_eq (Φ : ℕ → sProp 𝕄) : ∀ n j, bigSep (Finset.range n) (fun i => Φ (j + i)) = sepFrom Φ n j
  | 0, j => by rw [Finset.range_zero, bigSep_empty]; rfl
  | n + 1, j => by
    rw [Finset.range_add_one', bigSep_insert (by simp), bigSep_map]
    show _ = iprop(Φ j ∗ sepFrom Φ n (j + 1))
    rw [← sepFrom_eq Φ n (j + 1)]
    refine congrArg (fun R => iprop(Φ j ∗ R)) (bigSep_congr fun i _ => ?_)
    show Φ (j + (i + 1)) = Φ (j + 1 + i)
    rw [Nat.add_right_comm, Nat.add_assoc]

/-- The hops done in direction `b`. -/
abbrev Done (l : ℕ) (b : Bool) (j : ℕ) : sProp 𝕄 := bigSep (Finset.range j) fun s => P2 l b s c

theorem done_succ (l : ℕ) (b : Bool) (j : ℕ) : iprop(P2 l b j c ∗ Done (F := F) c l b j) ⊢ Done c l b (j + 1) := by
  unfold Done
  rw [Finset.range_add_one, bigSep_insert (by simp)]
  exact .rfl

/-- What both directions know in layer `l`: the own credit cells have come to round `l`. -/
def crOwn (l : ℕ) : sProp 𝕄 := iprop(reached ER (cell c (kCred true)) l ∗ reached ER (cell c (kCred false)) l)
/-- The neighbours' credit cells have come to round `l`. -/
def crUp (l : ℕ) : sProp 𝕄 := iprop(reached ER (cell (up true c) (kCred true)) l ∗ reached ER (cell (up false c) (kCred false)) l)

instance crOwn_persistent (l : ℕ) : BI.Persistent (crOwn (F := F) c l) := by unfold crOwn; infer_instance
instance crUp_persistent (l : ℕ) : BI.Persistent (crUp (F := F) c l) := by unfold crUp; infer_instance

theorem wp_starts {Q : α → sProp 𝕄} (l s : ℕ) (hl : l < 3) (hs : s < 15) {O : CellTallies nD τ sig ℕ} {k : PUnit → Prog (TpuEff nD τ sig (Elt F) Λ₀ .tc) α} :
    iprop(Recs m K ∗ crOwn c l ∗ slotP true (sl s) c fullShare (WT m l true (src true s c)) ∗ slotP false (sl s) c fullShare (WT m l false (src false s c))
        ∗ P0 l true s c ∗ P0 l false s c ∗ ow c (O + hopO c l s false + hopO c l s true))
      ⊢ iprop((P1 m l true s c ∗ P1 m l false s c ∗ ow c O -∗ WP c (k ⟨⟩) Q) -∗ WP c (starts c s >>= k) Q) := by
  unfold starts crOwn
  simp only [Prog.bind_assoc]
  iintro ⟨#HR, ⟨#Hct, #Hcf⟩, Ht, Hf, Pt, Pf, HO⟩ Hk
  iapply (wp_startB m K c true l s hl hs) $$ [Ht Pt HO]
  · isplitr; · iexact HR
    isplitr; · iexact Hct
    isplitl [Ht]; · iexact Ht
    isplitl [Pt] <;> iassumption
  iintro ⟨Pt, HO⟩
  iapply (wp_startB m K c false l s hl hs) $$ [Hf Pf HO]
  · isplitr; · iexact HR
    isplitr; · iexact Hcf
    isplitl [Hf]; · iexact Hf
    isplitl [Pf] <;> iassumption
  iintro ⟨Pf, HO⟩
  iapply Hk
  isplitl [Pt]; · iexact Pt
  isplitl [Pf] <;> iassumption

theorem wp_waits {Q : α → sProp 𝕄} (l s : ℕ) (hl : l < 3) (hs : s < 15) {O : CellTallies nD τ sig ℕ} (hO : Above (20 * l + 2 + s) O)
    {k : PUnit → Prog (TpuEff nD τ sig (Elt F) Λ₀ .tc) α} :
    iprop(Recs m K ∗ P1 m l true s c ∗ P1 m l false s c ∗ ow c O)
      ⊢ iprop((P2 l true s c ∗ P2 l false s c ∗ slotP true (sl (s + 1)) c fullShare (WT m l true (src true (s + 1) c))
          ∗ slotP false (sl (s + 1)) c fullShare (WT m l false (src false (s + 1) c)) ∗ crUp c l ∗ ow c O -∗ WP c (k ⟨⟩) Q) -∗ WP c (waits s >>= k) Q) := by
  unfold waits
  simp only [Prog.bind_assoc]
  iintro ⟨#HR, Pt, Pf, HO⟩ Hk
  iapply (wp_waitsB m K c true l s hl hs hO) $$ [Pt HO]
  · isplitr; · iexact HR
    isplitl [Pt] <;> iassumption
  iintro ⟨At, Bt, Ct, #Dt, HO⟩
  iapply (wp_waitsB m K c false l s hl hs hO) $$ [Pf HO]
  · isplitr; · iexact HR
    isplitl [Pf] <;> iassumption
  iintro ⟨Af, Bf, Cf, #Df, HO⟩
  iapply Hk
  isplitl [At Bt]
  · unfold P2
    isplitl [At]; · iexact At
    iexists _; iexact Bt
  isplitl [Af Bf]
  · unfold P2
    isplitl [Af]; · iexact Af
    iexists _; iexact Bf
  isplitl [Ct]; · iexact Ct
  isplitl [Cf]; · iexact Cf
  isplitr
  · unfold crUp
    isplitr <;> iassumption
  iexact HO

/-- The slot a hop in flight leaves readable. -/
theorem P1_slot (l : ℕ) (b : Bool) (s : ℕ) : P1 m l b s c
    ⊢ iprop(slotP b (sl s) c fullShare.left (WT m l b (src b s c)) ∗ (slotP b (sl s) c fullShare.left (WT m l b (src b s c)) -∗ P1 m l b s c)) := by
  unfold P1
  iintro ⟨H1, H2, H3, H4, H5⟩
  isplitl [H5]; · iexact H5
  iintro H5
  isplitl [H1]; · iexact H1
  isplitl [H2]; · iexact H2
  isplitl [H3]; · iexact H3
  isplitl [H4] <;> iassumption

/-- What the hops end with: both directions done, the last slot of each filled, the accumulator complete. -/
def hopsPost (l : ℕ) (x : Vec F S512x256 .f32) (R : CellTallies nD τ sig ℕ) : sProp 𝕄 :=
  iprop(Done c l true 15 ∗ Done c l false 15 ∗ (∃ X, slotP true (sl 15) c fullShare X) ∗ (∃ X, slotP false (sl 15) c fullShare X)
    ∗ owns (c : Thread nD τ) xbf fullShare (k0_pay8 x) ∗ owns (c : Thread nD τ) accM fullShare (accV m l c x 15) ∗ crUp c l ∗ ow c R)

/-- The hops from hop `j`, in flight, to the last. -/
theorem wp_hops (l : ℕ) (hl : l < 3) {x : Vec F S512x256 .f32} {R : CellTallies nD τ sig ℕ} (hR : Above (20 * l + 17) R) :
    ∀ (n j : ℕ) (hj : n + j = 14) {Q : α → sProp 𝕄} {k : PUnit → Prog (TpuEff nD τ sig (Elt F) Λ₀ .tc) α},
    iprop(Recs m K ∗ crOwn c l ∗ P1 m l true j c ∗ P1 m l false j c ∗ sepFrom (fun s => P0 l true s c) n (j + 1) ∗ sepFrom (fun s => P0 l false s c) n (j + 1)
        ∗ Done c l true j ∗ Done c l false j ∗ owns (c : Thread nD τ) xbf fullShare (k0_pay8 x) ∗ owns (c : Thread nD τ) accM fullShare (accV m l c x j)
        ∗ ow c (hopsO c l n (j + 1) R))
      ⊢ iprop((hopsPost m c l x R -∗ WP c (k ⟨⟩) Q) -∗ WP c (hops c n j >>= k) Q)
  | 0, j, hj, Q, k => by
    obtain rfl : j = 14 := by omega
    unfold hops
    simp only [Prog.bind_assoc]
    iintro ⟨#HR, #Hc, Pt, Pf, -, -, Dt, Df, Hx, Ha, HO⟩ Hk
    iapply (wp_waits m K c l 14 hl (by decide) (show Above (20 * l + 2 + 14) (hopsO c l 0 (14 + 1) R) from hR.mono (by omega))) $$ [Pt Pf HO]
    · isplitr; · iexact HR
      isplitl [Pt]; · iexact Pt
      isplitl [Pf] <;> iassumption
    iintro ⟨Qt, Qf, St, Sf, #Hu, HO⟩
    iapply (wp_contribs m c l 14) $$ [Hx Ha St Sf]
    · isplitl [Hx]; · iexact Hx
      isplitl [Ha]; · iexact Ha
      isplitl [St] <;> iassumption
    iintro ⟨Hx, Ha, St, Sf⟩
    iapply Hk
    unfold hopsPost
    isplitl [Qt Dt]
    · iapply (done_succ c l true 14); isplitl [Qt] <;> iassumption
    isplitl [Qf Df]
    · iapply (done_succ c l false 14); isplitl [Qf] <;> iassumption
    isplitl [St]; · iexists _; iexact St
    isplitl [Sf]; · iexists _; iexact Sf
    isplitl [Hx]; · iexact Hx
    isplitl [Ha]; · iexact Ha
    isplitr; · iexact Hu
    iexact HO
  | n + 1, j, hj, Q, k => by
    unfold hops
    simp only [Prog.bind_assoc]
    iintro ⟨#HR, #Hc, Pt, Pf, Ft, Ff, Dt, Df, Hx, Ha, HO⟩ Hk
    iapply (wp_waits m K c l j hl (by omega) (above_hops c l hl (hR.mono (by omega)) (n + 1) (j + 1) (by omega) (by omega))) $$ [Pt Pf HO]
    · isplitr; · iexact HR
      isplitl [Pt]; · iexact Pt
      isplitl [Pf] <;> iassumption
    iintro ⟨Qt, Qf, St, Sf, -, HO⟩
    ihave Ft := (show sepFrom (fun s => P0 l true s c) (n + 1) (j + 1) ⊢ iprop(P0 (F := F) l true (j + 1) c ∗ sepFrom (fun s => P0 l true s c) n (j + 1 + 1)) from .rfl) $$ Ft
    ihave Ff := (show sepFrom (fun s => P0 l false s c) (n + 1) (j + 1) ⊢ iprop(P0 (F := F) l false (j + 1) c ∗ sepFrom (fun s => P0 l false s c) n (j + 1 + 1)) from .rfl) $$ Ff
    icases Ft with ⟨Pt, Ft⟩
    icases Ff with ⟨Pf, Ff⟩
    iapply (wp_starts m K c l (j + 1) hl (by omega) (O := hopsO c l n (j + 1 + 1) R)) $$ [St Sf Pt Pf HO]
    · isplitr; · iexact HR
      isplitr; · iexact Hc
      isplitl [St]; · iexact St
      isplitl [Sf]; · iexact Sf
      isplitl [Pt]; · iexact Pt
      isplitl [Pf]; · iexact Pf
      iexact HO
    iintro ⟨Pt, Pf, HO⟩
    ihave Pt := (P1_slot m c l true (j + 1)) $$ Pt
    ihave Pf := (P1_slot m c l false (j + 1)) $$ Pf
    icases Pt with ⟨St, Pt⟩
    icases Pf with ⟨Sf, Pf⟩
    iapply (wp_contribs m c l j) $$ [Hx Ha St Sf]
    · isplitl [Hx]; · iexact Hx
      isplitl [Ha]; · iexact Ha
      isplitl [St] <;> iassumption
    iintro ⟨Hx, Ha, St, Sf⟩
    iapply (wp_hops l hl hR n (j + 1) (by omega)) $$ [Pt Pf St Sf Ft Ff Dt Df Qt Qf Hx Ha HO]
    · isplitr; · iexact HR
      isplitr; · iexact Hc
      isplitl [Pt St]; · iapply Pt; iexact St
      isplitl [Pf Sf]; · iapply Pf; iexact Sf
      isplitl [Ft]; · iexact Ft
      isplitl [Ff]; · iexact Ff
      isplitl [Qt Dt]
      · iapply (done_succ c l true j); isplitl [Qt] <;> iassumption
      isplitl [Qf Df]
      · iapply (done_succ c l false j); isplitl [Qf] <;> iassumption
      isplitl [Hx]; · iexact Hx
      isplitl [Ha]; · iexact Ha
      iexact HO
    iexact Hk

/-- The first transfers, the product with the own blocks, and all the hops. -/
theorem wp_core (l : ℕ) (hl : l < 3) {x : Vec F S512x256 .f32} {R : CellTallies nD τ sig ℕ} (hR : Above (20 * l + 17) R)
    {Q : α → sProp 𝕄} {k : PUnit → Prog (TpuEff nD τ sig (Elt F) Λ₀ .tc) α} :
    iprop(Recs m K ∗ crOwn c l ∗ sepFrom (fun s => P0 l true s c) 15 0 ∗ sepFrom (fun s => P0 l false s c) 15 0
        ∗ slotP true (sl 0) c fullShare (WT m l true c) ∗ slotP false (sl 0) c fullShare (WT m l false c)
        ∗ wts m c l ∗ owns (c : Thread nD τ) xcur fullShare x ∗ owns (c : Thread nD τ) xbf fullShare (k0_pay8 x) ∗ some_ c accM
        ∗ ow c (hopsO c l 15 0 R))
      ⊢ iprop((hopsPost m c l x R ∗ wts m c l ∗ owns (c : Thread nD τ) xcur fullShare x -∗ WP c (k ⟨⟩) Q) -∗ WP c (core c l >>= k) Q) := by
  unfold core
  simp only [Prog.bind_assoc]
  iintro ⟨#HR, #Hc, Ft, Ff, St, Sf, Hw, Hx, Hb, Ha, HO⟩ Hk
  ihave Ft := (show sepFrom (fun s => P0 l true s c) 15 0 ⊢ iprop(P0 (F := F) l true 0 c ∗ sepFrom (fun s => P0 l true s c) 14 1) from .rfl) $$ Ft
  ihave Ff := (show sepFrom (fun s => P0 l false s c) 15 0 ⊢ iprop(P0 (F := F) l false 0 c ∗ sepFrom (fun s => P0 l false s c) 14 1) from .rfl) $$ Ff
  icases Ft with ⟨Pt, Ft⟩
  icases Ff with ⟨Pf, Ff⟩
  iapply (wp_starts m K c l 0 hl (by decide) (O := hopsO c l 14 1 R)) $$ [St Sf Pt Pf HO]
  · isplitr; · iexact HR
    isplitr; · iexact Hc
    isplitl [St]; · iexact St
    isplitl [Sf]; · iexact Sf
    isplitl [Pt]; · iexact Pt
    isplitl [Pf]; · iexact Pf
    iexact HO
  iintro ⟨Pt, Pf, HO⟩
  iapply (wp_localMul m c l) $$ [Hw Hx Ha]
  · isplitl [Hw]; · iexact Hw
    isplitl [Hx] <;> iassumption
  iintro ⟨Hw, Hx, Ha⟩
  iapply (wp_hops m K c l hl hR 14 0 rfl) $$ [Pt Pf Ft Ff Hb Ha HO]
  · isplitr; · iexact HR
    isplitr; · iexact Hc
    isplitl [Pt]; · iexact Pt
    isplitl [Pf]; · iexact Pf
    isplitl [Ft]; · iexact Ft
    isplitl [Ff]; · iexact Ff
    isplitr; · unfold Done; rw [Finset.range_zero, bigSep_empty]; iempintro
    isplitr; · unfold Done; rw [Finset.range_zero, bigSep_empty]; iempintro
    isplitl [Hb]; · iexact Hb
    isplitl [Ha]; · iexact Ha
    iexact HO
  iintro Hp
  iapply Hk
  isplitl [Hp]; · iexact Hp
  isplitl [Hw] <;> iassumption

end Hops

end Cert.KernelIdeal.Ring

end
-- ==== Proof.K.Round.lean ====
/-
From layer to layer: the barrier, the hand-over of a buffer's slots between the layers, and the whole program
on device `c`.
-/
module

public import proofs.«01_k».proof.Proof.K.Layer

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Idealize.SL.BI.Laws
open Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (K : Dev nD × CK → ℕ) (c : Dev nD)

/-! ## The slots of a buffer, as a layer begins and ends -/

omit [FloatOps F] in
theorem bigSep_range_fin (n : ℕ) (Φ : ℕ → sProp 𝕄) :
    bigSep (Finset.range n) Φ = bigSep Finset.univ fun i : Fin n => Φ i.val := by
  rw [← Nat.Iio_eq_range, ← Fin.map_valEmbedding_univ, bigSep_map]; rfl

/-- Slot 0 of direction `b`, at some contents. -/
abbrev slot0 (b : Bool) : sProp 𝕄 := iprop(∃ X, slotP b (sl 0) c fullShare X)

/-- The positions of all of direction `b`'s transfers, at round `l`. -/
def Owns (l : ℕ) (b : Bool) : sProp 𝕄 := bigSep (Finset.range 15) fun s => Own l b s c
/-- What the transfers of layer `l` spend. -/
def Toks (l : ℕ) (b : Bool) : sProp 𝕄 := bigSep (Finset.range 15) fun s => Tok l b s c

theorem slots_eq (b : Bool) : bigSep Finset.univ (fun i : Fin 16 => iprop(∃ X, slotP (F := F) b i c fullShare X))
    = iprop(slot0 c b ∗ bigSep (Finset.range 15) fun s => iprop(∃ X, slotP b (sl (s + 1)) c fullShare X)) := by
  have h : bigSep (Finset.range 16) (fun s => iprop(∃ X, slotP (F := F) b (sl s) c fullShare X))
      = bigSep Finset.univ (fun i : Fin 16 => iprop(∃ X, slotP (F := F) b i c fullShare X)) :=
    (bigSep_range_fin 16 _).trans (bigSep_congr fun i _ => by
      rw [show sl i.val = i from Fin.ext (Nat.mod_eq_of_lt i.isLt)])
  rw [← h, Finset.range_add_one', bigSep_insert (by simp), bigSep_map]
  rfl

/-- The marks of the receive cells, read off the positions. -/
theorem owns_marks (l : ℕ) (b : Bool) : Owns c l b
    ⊢ (iprop((bigSep (Finset.range 15) fun s => reached ER (cell c (kRecv b (se s))) l) ∗ Owns c l b) : sProp 𝕄) := by
  refine persistent_entails_right ?_
  unfold Owns
  refine bigSep_mono fun s _ => ?_
  show (Own l b s c : sProp 𝕄) ⊢ reached ER (cell c (kRecv b (se s))) l
  unfold Own
  iintro ⟨-, -, -, H⟩
  iexact H

theorem handover_intro (l : ℕ) (b : Bool) :
    iprop((bigSep (Finset.range 15) fun s => iprop(∃ X, slotP (F := F) b (sl (s + 1)) c fullShare X)) ∗ Owns c l b)
      ⊢ iprop(handover l b c ∗ Owns c l b) := by
  iintro ⟨Hs, Ho⟩
  ihave Ho := (owns_marks c l b) $$ Ho
  icases Ho with ⟨Hm, Ho⟩
  isplitl [Hs Hm]
  · unfold handover
    rw [bigSep_sep']
    isplitl [Hs] <;> iassumption
  iexact Ho

theorem handover_slots (l : ℕ) (b : Bool) : handover l b c
    ⊢ (bigSep (Finset.range 15) fun s => iprop(∃ X, slotP (F := F) b (sl (s + 1)) c fullShare X) : sProp 𝕄) := by
  unfold handover
  rw [bigSep_sep']
  iintro ⟨H, -⟩
  iexact H

theorem p0_intro (l : ℕ) (b : Bool) :
    iprop(Owns c l b ∗ Toks c l b ∗ handover l b (nbr b c)) ⊢ (sepFrom (fun s => P0 l b s c) 15 0 : sProp 𝕄) := by
  rw [← sepFrom_eq]
  have h : bigSep (Finset.range 15) (fun i => P0 (F := F) l b (0 + i) c)
      = bigSep (Finset.range 15) (fun s => iprop(Own l b s c ∗ Tok l b s c ∗ Dst l b s c)) :=
    bigSep_congr fun s _ => by rw [Nat.zero_add]; rfl
  rw [h, bigSep_sep', bigSep_sep']
  exact .rfl

theorem done_out (l : ℕ) (b : Bool) : iprop(Done c l b 15 ∗ ∃ X, slotP b (sl 15) c fullShare X)
    ⊢ (iprop(Owns c (l + 1) b ∗ slot0 c b ∗ handover (l + 1) b c) : sProp 𝕄) := by
  have h : Done (F := F) c l b 15 = iprop(Owns c (l + 1) b ∗ bigSep (Finset.range 15) fun s => iprop(∃ X, slotP b (sl s) c fullShare X)) := by
    unfold Done Owns P2; rw [bigSep_sep']
  have h2 : iprop((bigSep (Finset.range 15) fun s => iprop(∃ X, slotP (F := F) b (sl s) c fullShare X)) ∗ ∃ X, slotP b (sl 15) c fullShare X)
      ⊢ (iprop(slot0 c b ∗ bigSep (Finset.range 15) fun s => iprop(∃ X, slotP b (sl (s + 1)) c fullShare X)) : sProp 𝕄) := by
    have h3 : bigSep (Finset.range 16) (fun s => iprop(∃ X, slotP (F := F) b (sl s) c fullShare X))
        = iprop(slot0 c b ∗ bigSep (Finset.range 15) fun s => iprop(∃ X, slotP b (sl (s + 1)) c fullShare X)) := by
      rw [Finset.range_add_one', bigSep_insert (by simp), bigSep_map]; rfl
    rw [← h3, show Finset.range 16 = insert 15 (Finset.range 15) from Finset.range_add_one, bigSep_insert (by simp)]
    exact sep_comm.1
  rw [h]
  iintro ⟨⟨Ho, Hs⟩, Hl⟩
  ihave Hs := h2 $$ [Hs Hl]
  · isplitl [Hs] <;> iassumption
  icases Hs with ⟨H0, Hs⟩
  ihave Hh := (handover_intro c (l + 1) b) $$ [Hs Ho]
  · isplitl [Hs] <;> iassumption
  icases Hh with ⟨Hh, Ho⟩
  isplitl [Ho]; · iexact Ho
  isplitl [H0] <;> iassumption

/-! ## Barrier and credits -/

section Sync
variable {α : Type} {k : PUnit → Prog (TpuEff nD τ sig (Elt F) Λ₀ .tc) α}

/-- The barrier duties a device pays, -/
def barTok : sProp 𝕄 := iprop(dutyTok ER (cell (up true c) kBar) 0 true ∗ dutyTok ER (cell (up false c) kBar) 0 false)
/-- the credit duties it pays at round `r`, -/
def credTok (r : ℕ) : sProp 𝕄 :=
  iprop(dutyTok ER (cell (up true c) (kCred true)) r false ∗ dutyTok ER (cell (up false c) (kCred false)) r false)
/-- the credits it collects at round `r`, -/
def credCr (r : ℕ) : sProp 𝕄 :=
  iprop(cred (tallyAt (cell c (kCred true)) r 1) ∗ cred (tallyAt (cell c (kCred false)) r 1))
/-- and its position there. -/
def credAt (r : ℕ) : sProp 𝕄 :=
  iprop(atPos ER (cell c (kCred true)) r ∅ 0 ∗ atPos ER (cell c (kCred false)) r ∅ 0)

theorem wp_barrier {Q : α → sProp 𝕄} {O : CellTallies nD τ sig ℕ} (hO : Above 1 O) :
    iprop(Recs m K ∗ ow c (O + barO c false + barO c true) ∗ barTok c ∗ handover 0 true c ∗ handover 0 false c
        ∗ cred (tallyAt (cell c kBar) 0 2) ∗ atPos ER (cell c kBar) 0 ∅ 0)
      ⊢ iprop((ow c O ∗ atPos ER (cell c kBar) 1 ∅ 0 ∗ handover 0 true (nbr true c) ∗ handover 0 false (nbr false c) -∗ WP c (k ⟨⟩) Q)
          -∗ WP c (barrier c >>= k) Q) := by
  unfold barrier barO barTok
  simp only [semSignalWord, semWaitWord, Prog.bind_op, Prog.bind_ret, Prog.bind_assoc]
  iintro ⟨#HR, HO, ⟨Tt, Tf⟩, Ht, Hf, Hc, Ha⟩ Hk
  iapply (wp_signalCell m K c (up true c) _ (dev1_eq c) kBar (s := barS) rfl (r := 0) (b := true) (Finset.mem_univ _) rfl) $$ [HO Tt Ht]
  · isplitr; · iexact HR
    isplitl [HO]; · iexact HO
    isplitl [Tt]; · iexact Tt
    isplitl [Ht]
    · rw [show payK m kBar (up true c) 0 true = handover 0 true (nbr true (up true c)) from rfl, nbr_up]; iexact Ht
    iapply (recs_reached m K (up true c) kBar); iexact HR
  iintro HO
  iapply (wp_signalCell m K c (up false c) _ (dev2_eq c) kBar (s := barS) rfl (r := 0) (b := false) (Finset.mem_univ _) rfl) $$ [HO Tf Hf]
  · isplitr; · iexact HR
    isplitl [HO]; · iexact HO
    isplitl [Tf]; · iexact Tf
    isplitl [Hf]
    · rw [show payK m kBar (up false c) 0 false = handover 0 false (nbr false (up false c)) from rfl, nbr_up]; iexact Hf
    iapply (recs_reached m K (up false c) kBar); iexact HR
  iintro HO
  iapply (wp_waitCell m K c kBar (n := 2) (r := 0) (lvl := 1) (wpE_semWait_eq 𝒱₀ (c : Thread nD τ) none Set.univ) (expect_bar m c) (rest_bar m c)
    (by decide) (by decide) hO) $$ [HO Hc Ha]
  · isplitr; · iexact HR
    isplitl [Hc]; · iexact Hc
    isplitl [HO] <;> iassumption
  iintro ⟨HO, Ha, -, Ht, Hf⟩
  iapply Hk
  isplitl [HO]; · iexact HO
  isplitl [Ha]; · iexact Ha
  isplitl [Ht] <;> iassumption

theorem wp_layerEnd {Q : α → sProp 𝕄} (l : ℕ) (hl : l < 2) {O : CellTallies nD τ sig ℕ} {a x : Vec F S512x256 .f32} :
    iprop(Recs m K ∗ crUp c l ∗ ow c (O + credO c l false + credO c l true) ∗ credTok c l ∗ handover (l + 1) true c ∗ handover (l + 1) false c
        ∗ owns (c : Thread nD τ) accM fullShare a ∗ owns (c : Thread nD τ) xcur fullShare x)
      ⊢ iprop((ow c O ∗ owns (c : Thread nD τ) accM fullShare a ∗ owns (c : Thread nD τ) xcur fullShare (k0_pay55 a) -∗ WP c (k ⟨⟩) Q)
          -∗ WP c (layerEnd c >>= k) Q) := by
  unfold layerEnd credO credTok crUp
  simp only [semSignalWord, Prog.bind_op, Prog.bind_ret, Prog.bind_assoc]
  iintro ⟨#HR, ⟨#Ut, #Uf⟩, HO, ⟨Tt, Tf⟩, Ht, Hf, Ha, Hx⟩ Hk
  have hd : ∀ b : Bool, false ∈ dutiesK (kCred b) l := fun b => by
    rw [show dutiesK (kCred b) l = {false} from if_pos hl]; exact Finset.mem_singleton_self _
  iapply (wp_signalCell m K c (up true c) _ (dev1_eq c) (kCred true) (s := credS true) rfl (r := l) (b := false) (hd true) rfl) $$ [HO Tt Ht]
  · isplitr; · iexact HR
    isplitl [HO]; · iexact HO
    isplitl [Tt]; · iexact Tt
    isplitl [Ht]
    · rw [show payK m (kCred true) (up true c) l false = handover (l + 1) true (nbr true (up true c)) from rfl, nbr_up]; iexact Ht
    iexact Ut
  iintro HO
  iapply (wp_signalCell m K c (up false c) _ (dev2_eq c) (kCred false) (s := credS false) rfl (r := l) (b := false) (hd false) rfl) $$ [HO Tf Hf]
  · isplitr; · iexact HR
    isplitl [HO]; · iexact HO
    isplitl [Tf]; · iexact Tf
    isplitl [Hf]
    · rw [show payK m (kCred false) (up false c) l false = handover (l + 1) false (nbr false (up false c)) from rfl, nbr_up]; iexact Hf
    iexact Uf
  iintro HO
  iapply (wp_loadFull c) $$ Ha; iintro Ha
  iapply (wp_loadFull c) $$ Hx; iintro Hx
  iapply (wp_storeFull c) $$ Hx; iintro Hx
  iapply Hk
  isplitl [HO]; · iexact HO
  isplitl [Ha] <;> iassumption

theorem wp_credits {Q : α → sProp 𝕄} (l : ℕ) (hl : l < 2) {O : CellTallies nD τ sig ℕ} (hO : Above (20 * l + 18) O) :
    iprop(Recs m K ∗ ow c O ∗ credCr c l ∗ credAt c l)
      ⊢ iprop((ow c O ∗ credAt c (l + 1) ∗ crOwn c (l + 1) ∗ handover (l + 1) true (nbr true c) ∗ handover (l + 1) false (nbr false c) -∗ WP c (k ⟨⟩) Q)
          -∗ WP c (credits >>= k) Q) := by
  unfold credits credCr credAt crOwn
  simp only [semWaitWord, Prog.bind_op, Prog.bind_ret, Prog.bind_assoc]
  iintro ⟨#HR, HO, ⟨Ct, Cf⟩, At, Af⟩ Hk
  iapply (wp_waitCell m K c (kCred true) (n := 1) (r := l) (lvl := 20 * l + 18) (wpE_semWait_eq 𝒱₀ (c : Thread nD τ) none Set.univ) (expect_cred m c true hl) (rest_cred m c true hl)
    (by omega) (le_refl (20 * l + 18)) hO) $$ [HO Ct At]
  · isplitr; · iexact HR
    isplitl [Ct]; · iexact Ct
    isplitl [HO] <;> iassumption
  iintro ⟨HO, At, Rt, Ht⟩
  iapply (wp_waitCell m K c (kCred false) (n := 1) (r := l) (lvl := 20 * l + 18) (wpE_semWait_eq 𝒱₀ (c : Thread nD τ) none Set.univ) (expect_cred m c false hl) (rest_cred m c false hl)
    (by omega) (le_refl (20 * l + 18)) hO) $$ [HO Cf Af]
  · isplitr; · iexact HR
    isplitl [Cf]; · iexact Cf
    isplitl [HO] <;> iassumption
  iintro ⟨HO, Af, Rf, Hf⟩
  iapply Hk
  isplitl [HO]; · iexact HO
  isplitl [At Af]; · isplitl [At] <;> iassumption
  isplitl [Rt Rf]; · isplitl [Rt] <;> iassumption
  isplitl [Ht] <;> iassumption

theorem wp_storeOut {Q : α → sProp 𝕄} {a o : Vec F S512x256 .f32} :
    iprop(owns (c : Thread nD τ) accM fullShare a ∗ owns (c : Thread nD τ) outM fullShare o)
      ⊢ iprop((owns (c : Thread nD τ) accM fullShare a ∗ owns (c : Thread nD τ) outM fullShare a -∗ WP c (k ⟨⟩) Q) -∗ WP c (storeOut >>= k) Q) := by
  unfold storeOut
  simp only [Prog.bind_assoc]
  iintro ⟨Ha, Ho⟩ Hk
  iapply (wp_loadFull c) $$ Ha; iintro Ha
  iapply (wp_loadFull c) $$ Ho; iintro Ho
  iapply (wp_storeFull c) $$ Ho; iintro Ho
  iapply Hk
  isplitl [Ha] <;> iassumption

/-- A layer's transfers and products, from the filled slots 0 to the accumulator, with every slot of the device back. -/
theorem wp_layer {Q : α → sProp 𝕄} (l : ℕ) (hl : l < 3) {x : Vec F S512x256 .f32} :
    iprop(Recs m K ∗ crOwn c l ∗ (Owns c l true ∗ Owns c l false) ∗ (Toks c l true ∗ Toks c l false)
        ∗ handover l true (nbr true c) ∗ handover l false (nbr false c)
        ∗ slotP true (sl 0) c fullShare (WT m l true c) ∗ slotP false (sl 0) c fullShare (WT m l false c)
        ∗ wts m c l ∗ owns (c : Thread nD τ) xcur fullShare x ∗ owns (c : Thread nD τ) xbf fullShare (k0_pay8 x) ∗ some_ c accM
        ∗ ow c (hopsO c l 15 0 (owe c l)))
      ⊢ iprop(((Owns c (l + 1) true ∗ Owns c (l + 1) false) ∗ slot0 c true ∗ slot0 c false ∗ handover (l + 1) true c ∗ handover (l + 1) false c
          ∗ wts m c l ∗ owns (c : Thread nD τ) xcur fullShare x ∗ some_ c xbf ∗ owns (c : Thread nD τ) accM fullShare (accV m l c x 15)
          ∗ crUp c l ∗ ow c (owe c l) -∗ WP c (k ⟨⟩) Q) -∗ WP c (core c l >>= k) Q) := by
  iintro ⟨#HR, #Hc, ⟨Ot, Of⟩, ⟨Tt, Tf⟩, Ht, Hf, St, Sf, Hw, Hx, Hb, Ha, HO⟩ Hk
  iapply (wp_core m K c l hl (above_owe c l hl)) $$ [Ot Of Tt Tf Ht Hf St Sf Hw Hx Hb Ha HO]
  · isplitr; · iexact HR
    isplitr; · iexact Hc
    isplitl [Ot Tt Ht]
    · iapply (p0_intro c l true); isplitl [Ot]; · iexact Ot
      isplitl [Tt] <;> iassumption
    isplitl [Of Tf Hf]
    · iapply (p0_intro c l false); isplitl [Of]; · iexact Of
      isplitl [Tf] <;> iassumption
    isplitl [St]; · iexact St
    isplitl [Sf]; · iexact Sf
    isplitl [Hw]; · iexact Hw
    isplitl [Hx]; · iexact Hx
    isplitl [Hb]; · iexact Hb
    isplitl [Ha] <;> iassumption
  unfold hopsPost
  iintro ⟨⟨Dt, Df, Lt, Lf, Hb, Ha, Hu, HO⟩, Hw, Hx⟩
  ihave Ht := (done_out c l true) $$ [Dt Lt]
  · isplitl [Dt] <;> iassumption
  ihave Hf := (done_out c l false) $$ [Df Lf]
  · isplitl [Df] <;> iassumption
  icases Ht with ⟨Ot, Zt, Ht⟩
  icases Hf with ⟨Of, Zf, Hf⟩
  iapply Hk
  isplitl [Ot Of]; · isplitl [Ot] <;> iassumption
  isplitl [Zt]; · iexact Zt
  isplitl [Zf]; · iexact Zf
  isplitl [Ht]; · iexact Ht
  isplitl [Hf]; · iexact Hf
  isplitl [Hw]; · iexact Hw
  isplitl [Hx]; · iexact Hx
  isplitl [Hb]; · iexists _; iexact Hb
  isplitl [Ha]; · iexact Ha
  isplitl [Hu] <;> iassumption

/-- A middle layer: its slots filled, the neighbours' credits taken, its transfers and products. -/
theorem wp_next {Q : α → sProp 𝕄} (l : ℕ) (hl : l < 2) {x : Vec F S512x256 .f32} :
    iprop(Recs m K ∗ (Owns c (l + 1) true ∗ Owns c (l + 1) false) ∗ (Toks c (l + 1) true ∗ Toks c (l + 1) false)
        ∗ slot0 c true ∗ slot0 c false
        ∗ wts m c (l + 1) ∗ owns (c : Thread nD τ) xcur fullShare x ∗ some_ c xbf ∗ some_ c accM
        ∗ credCr c l ∗ credAt c l ∗ ow c (hopsO c (l + 1) 15 0 (owe c (l + 1))))
      ⊢ iprop(((Owns c (l + 1 + 1) true ∗ Owns c (l + 1 + 1) false) ∗ slot0 c true ∗ slot0 c false ∗ handover (l + 1 + 1) true c ∗ handover (l + 1 + 1) false c
          ∗ wts m c (l + 1) ∗ owns (c : Thread nD τ) xcur fullShare x ∗ some_ c xbf ∗ owns (c : Thread nD τ) accM fullShare (accV m (l + 1) c x 15)
          ∗ crUp c (l + 1) ∗ credAt c (l + 1) ∗ ow c (owe c (l + 1)) -∗ WP c (k ⟨⟩) Q)
        -∗ WP c (fill (l + 1) >>= fun _ => credits >>= fun _ => core c (l + 1) >>= k) Q) := by
  iintro ⟨#HR, HO1, HT, Zt, Zf, Hw, Hx, Hb, Ha, Hc, Hp, HO⟩ Hk
  iapply (wp_fill m c (l + 1)) $$ [Zt Zf Hw Hx Hb]
  · isplitl [Hw]; · iexact Hw
    isplitl [Hx]; · iexact Hx
    isplitl [Hb]; · iexact Hb
    isplitl [Zt] <;> iassumption
  iintro ⟨Hw, Hx, Hb, St, Sf⟩
  iapply (wp_credits m K c l hl (O := hopsO c (l + 1) 15 0 (owe c (l + 1)))
    (above_hops c (l + 1) (by omega) ((above_owe c (l + 1) (by omega)).mono (by omega)) 15 0 (by decide) (by omega))) $$ [HO Hc Hp]
  · isplitr; · iexact HR
    isplitl [HO]; · iexact HO
    isplitl [Hc] <;> iassumption
  iintro ⟨HO, Hp, #Hr, Ht, Hf⟩
  iapply (wp_layer m K c (l + 1) (by omega)) $$ [HO1 HT Ht Hf St Sf Hw Hx Hb Ha HO]
  · isplitr; · iexact HR
    isplitr; · iexact Hr
    isplitl [HO1]; · iexact HO1
    isplitl [HT]; · iexact HT
    isplitl [Ht]; · iexact Ht
    isplitl [Hf]; · iexact Hf
    isplitl [St]; · iexact St
    isplitl [Sf]; · iexact Sf
    isplitl [Hw]; · iexact Hw
    isplitl [Hx]; · iexact Hx
    isplitl [Hb]; · iexact Hb
    isplitl [Ha] <;> iassumption
  iintro ⟨HO1, Zt, Zf, Ht, Hf, Hw, Hx, Hb, Ha, Hu, HO⟩
  iapply Hk
  isplitl [HO1]; · iexact HO1
  isplitl [Zt]; · iexact Zt
  isplitl [Zf]; · iexact Zf
  isplitl [Ht]; · iexact Ht
  isplitl [Hf]; · iexact Hf
  isplitl [Hw]; · iexact Hw
  isplitl [Hx]; · iexact Hx
  isplitl [Hb]; · iexact Hb
  isplitl [Ha]; · iexact Ha
  isplitl [Hu]; · iexact Hu
  isplitl [Hp] <;> iassumption

end Sync

/-! ## The program -/

/-- The positions a device starts at, -/
def posIn : sProp 𝕄 := iprop(atPos ER (cell c kBar) 0 ∅ 0 ∗ credAt c 0 ∗ Owns c 0 true ∗ Owns c 0 false)
/-- and those it ends at. -/
def posOut : sProp 𝕄 := iprop(atPos ER (cell c kBar) 1 ∅ 0 ∗ credAt c 2 ∗ Owns c 3 true ∗ Owns c 3 false)

/-- The duties a device pays with the credits it collects, layer by layer. -/
def payIn : sProp 𝕄 :=
  iprop((barTok c ∗ cred (tallyAt (cell c kBar) 0 2)) ∗ (credTok c 0 ∗ credTok c 1) ∗ (credCr c 0 ∗ credCr c 1)
    ∗ (Toks c 0 true ∗ Toks c 0 false) ∗ (Toks c 1 true ∗ Toks c 1 false) ∗ (Toks c 2 true ∗ Toks c 2 false))

/-- The device's buffers the kernel works in, at some contents. -/
def scratch : sProp 𝕄 :=
  iprop(some_ c xcur ∗ some_ c xbf ∗ some_ c accM
    ∗ (bigSep Finset.univ fun i : Fin 16 => iprop(∃ X, slotP (F := F) true i c fullShare X))
    ∗ bigSep Finset.univ fun i : Fin 16 => iprop(∃ X, slotP (F := F) false i c fullShare X))

/-- The device's blocks of the arguments. -/
def blocks : sProp 𝕄 :=
  iprop(owns (c : Thread nD τ) xin fullShare (xV m c) ∗ wts m c 0 ∗ wts m c 1 ∗ wts m c 2)

/-- The program after the device's index is read. -/
def progAt (d : Dev nD) : P F PUnit :=
  barrier d >>= fun _ => loadX >>= fun _ => fill 0 >>= fun _ => core d 0 >>= fun _ =>
    layerEnd d >>= fun _ => fill 1 >>= fun _ => credits >>= fun _ => core d 1 >>= fun _ => layerEnd d >>= fun _ => fill 2 >>= fun _ => credits >>= fun _ =>
    core d 2 >>= fun _ => storeOut >>= fun u => Prog.ret u

theorem prog_eq : (prog : P F PUnit) = Prog.op .deviceId progAt := by
  unfold prog storeOut progAt storeOut; rfl

theorem ret_intro {Q : PUnit → sProp 𝕄} : (Q ⟨⟩ : sProp 𝕄) ⊢ WP c (Prog.ret PUnit.unit) Q := by
  unfold WP
  rw [wp_ret]
  exact fupd_intro

theorem wp_id {Q : PUnit → sProp 𝕄} (p : Dev nD → P F PUnit) : WP c (Prog.op .deviceId p) Q = WP c (p c) Q := by
  unfold WP
  rw [wp_deviceId]

theorem wp_progAt {Q : PUnit → sProp 𝕄} :
    iprop(Recs m K ∗ posIn c ∗ payIn c ∗ scratch c ∗ blocks m c ∗ some_ c outM ∗ ow c (O₀ c))
      ⊢ iprop((posOut c ∗ scratch c ∗ blocks m c ∗ owns (c : Thread nD τ) outM fullShare (outV m c) ∗ ow c 0 -∗ Q ⟨⟩)
          -∗ WP c (progAt c) Q) := by
  unfold progAt
  unfold posIn payIn scratch blocks
  rw [slots_eq, slots_eq]
  iintro ⟨#HR, ⟨HatB, HatC, Ot, Of⟩, ⟨⟨HtB, HcB⟩, ⟨Ct0, Ct1⟩, ⟨Cc0, Cc1⟩, T0, T1, T2⟩, ⟨Hxc, Hxb, Hac, ⟨Zt, St⟩, Zf, Sf⟩, ⟨Hx, W0, W1, W2⟩, ⟨%o, Hout⟩, HO⟩ Hk
  ihave Ht := (handover_intro c 0 true) $$ [St Ot]
  · isplitl [St] <;> iassumption
  icases Ht with ⟨Ht, Ot⟩
  ihave Hf := (handover_intro c 0 false) $$ [Sf Of]
  · isplitl [Sf] <;> iassumption
  icases Hf with ⟨Hf, Of⟩
  iapply (wp_barrier m K c (above_start c)) $$ [HO HtB Ht Hf HcB HatB]
  · isplitr; · iexact HR
    isplitl [HO]; · iexact HO
    isplitl [HtB]; · iexact HtB
    isplitl [Ht]; · iexact Ht
    isplitl [Hf]; · iexact Hf
    isplitl [HcB] <;> iassumption
  iintro ⟨HO, HatB, Ht, Hf⟩
  iapply (wp_loadX c) $$ [Hx Hxc]
  · isplitl [Hx] <;> iassumption
  iintro ⟨Hx, Hxc⟩
  iapply (wp_fill m c 0) $$ [W0 Hxc Hxb Zt Zf]
  · isplitl [W0]; · iexact W0
    isplitl [Hxc]; · iexact Hxc
    isplitl [Hxb]; · iexact Hxb
    isplitl [Zt] <;> iassumption
  iintro ⟨W0, Hxc, Hxb, Zt, Zf⟩
  iapply (wp_layer m K c 0 (by decide)) $$ [Ot Of T0 Ht Hf Zt Zf W0 Hxc Hxb Hac HO]
  · isplitr; · iexact HR
    isplitr
    · unfold crOwn
      isplitr; · iapply (recs_reached m K c (kCred true)); iexact HR
      iapply (recs_reached m K c (kCred false)); iexact HR
    isplitl [Ot Of]; · isplitl [Ot] <;> iassumption
    isplitl [T0]; · iexact T0
    isplitl [Ht]; · iexact Ht
    isplitl [Hf]; · iexact Hf
    isplitl [Zt]; · iexact Zt
    isplitl [Zf]; · iexact Zf
    isplitl [W0]; · iexact W0
    isplitl [Hxc]; · iexact Hxc
    isplitl [Hxb]; · iexact Hxb
    isplitl [Hac]; · iexact Hac
    iexact HO
  iintro ⟨Ow, Zt, Zf, Ht, Hf, W0, Hxc, Hxb, Hac, #Hu0, HO⟩
  iapply (wp_layerEnd m K c 0 (by decide) (O := hopsO c 1 15 0 (owe1 c))) $$ [Ct0 Ht Hf Hac Hxc HO]
  · isplitr; · iexact HR
    isplitr; · iexact Hu0
    isplitl [HO]; · iexact HO
    isplitl [Ct0]; · iexact Ct0
    isplitl [Ht]; · iexact Ht
    isplitl [Hf]; · iexact Hf
    isplitl [Hac] <;> iassumption
  iintro ⟨HO, Hac, Hxc⟩
  iapply (wp_next m K c 0 (by decide)) $$ [Ow T1 Zt Zf W1 Hxc Hxb Hac Cc0 HatC HO]
  · isplitr; · iexact HR
    isplitl [Ow]; · iexact Ow
    isplitl [T1]; · iexact T1
    isplitl [Zt]; · iexact Zt
    isplitl [Zf]; · iexact Zf
    isplitl [W1]; · iexact W1
    isplitl [Hxc]; · iexact Hxc
    isplitl [Hxb]; · iexact Hxb
    isplitl [Hac]; · iexists _; iexact Hac
    isplitl [Cc0]; · iexact Cc0
    isplitl [HatC]; · iexact HatC
    iexact HO
  iintro ⟨Ow, Zt, Zf, Ht, Hf, W1, Hxc, Hxb, Hac, #Hu1, HatC, HO⟩
  iapply (wp_layerEnd m K c 1 (by decide) (O := hopsO c 2 15 0 (owe2 c))) $$ [Ct1 Ht Hf Hac Hxc HO]
  · isplitr; · iexact HR
    isplitr; · iexact Hu1
    isplitl [HO]; · iexact HO
    isplitl [Ct1]; · iexact Ct1
    isplitl [Ht]; · iexact Ht
    isplitl [Hf]; · iexact Hf
    isplitl [Hac] <;> iassumption
  iintro ⟨HO, Hac, Hxc⟩
  iapply (wp_next m K c 1 (by decide)) $$ [Ow T2 Zt Zf W2 Hxc Hxb Hac Cc1 HatC HO]
  · isplitr; · iexact HR
    isplitl [Ow]; · iexact Ow
    isplitl [T2]; · iexact T2
    isplitl [Zt]; · iexact Zt
    isplitl [Zf]; · iexact Zf
    isplitl [W2]; · iexact W2
    isplitl [Hxc]; · iexact Hxc
    isplitl [Hxb]; · iexact Hxb
    isplitl [Hac]; · iexists _; iexact Hac
    isplitl [Cc1]; · iexact Cc1
    isplitl [HatC]; · iexact HatC
    iexact HO
  iintro ⟨⟨Ot, Of⟩, Zt, Zf, Ht, Hf, W2, Hxc, Hxb, Hac, -, HatC, HO⟩
  iapply (wp_storeOut c) $$ [Hac Hout]
  · isplitl [Hac] <;> iassumption
  iintro ⟨Hac, Hout⟩
  iapply (ret_intro (F := F) c)
  iapply Hk
  unfold posOut
  isplitl [HatB HatC Ot Of]
  · isplitl [HatB]; · iexact HatB
    isplitl [HatC]; · iexact HatC
    isplitl [Ot]; · iexact Ot
    iexact Of
  isplitl [Hxc Hxb Hac Zt Zf Ht Hf]
  · isplitl [Hxc]; · iexists _; iexact Hxc
    isplitl [Hxb]; · iexact Hxb
    isplitl [Hac]; · iexists _; iexact Hac
    isplitl [Zt Ht]
    · isplitl [Zt]; · iexact Zt
      iapply (handover_slots c 3 true); iexact Ht
    isplitl [Zf]; · iexact Zf
    iapply (handover_slots c 3 false); iexact Hf
  isplitl [Hx W0 W1 W2]
  · isplitl [Hx]; · iexact Hx
    isplitl [W0]; · iexact W0
    isplitl [W1]; · iexact W1
    iexact W2
  isplitl [Hout]; · iexact Hout
  iexact HO

/-- The whole program on device `c`. -/
theorem wp_prog {Q : PUnit → sProp 𝕄} :
    iprop(Recs m K ∗ posIn c ∗ payIn c ∗ scratch c ∗ blocks m c ∗ some_ c outM ∗ ow c (O₀ c))
      ⊢ iprop((posOut c ∗ scratch c ∗ blocks m c ∗ owns (c : Thread nD τ) outM fullShare (outV m c) ∗ ow c 0 -∗ Q ⟨⟩)
          -∗ WP c prog Q) := by
  rw [prog_eq, wp_id]
  exact wp_progAt m K c

end Cert.KernelIdeal.Ring

end
-- ==== Proof.K.Body.lean ====
/-
The kernel's one region on device `c`: what it starts from, what it leaves, and the body between.
-/
module

public import proofs.«01_k».proof.Proof.K.Round
public import Idealize.ShloMosaic.Lib.Rounds.Family

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Idealize.SL.BI.Laws
open Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (c : Dev nD)

/-! ## Over all of a device's cells -/

theorem bigSep_bool (Φ : Bool → sProp 𝕄) : bigSep Finset.univ Φ = iprop(Φ true ∗ Φ false) :=
  bigSep_univ_eq_bigSepL [true, false] (by decide) (by decide) Φ

theorem bigSep_hops (Φ : Fin 15 → sProp 𝕄) : bigSep Finset.univ Φ = bigSep (Finset.range 15) fun s => Φ (se s) :=
  ((bigSep_range_fin 15 fun s => Φ (se s)).trans (bigSep_congr fun i _ => by
    rw [show se i.val = i from Fin.ext (Nat.mod_eq_of_lt i.isLt)])).symm

/-- A device's cells one by one: the barrier, the credits, the sends and the receives of both directions. -/
theorem bigSep_cells (Φ : CK → sProp 𝕄) : bigSep Finset.univ Φ
    = iprop((Φ kBar ∗ Φ (kCred true) ∗ Φ (kCred false))
      ∗ ((bigSep (Finset.range 15) fun s => Φ (kSend true (se s))) ∗ bigSep (Finset.range 15) fun s => Φ (kSend false (se s)))
      ∗ (bigSep (Finset.range 15) fun s => Φ (kRecv true (se s))) ∗ bigSep (Finset.range 15) fun s => Φ (kRecv false (se s))) := by
  rw [bigSep_univ_sum, bigSep_univ_prod, bigSep_bool, bigSep_univ_prod, bigSep_bool, bigSep_univ_prod, bigSep_bool,
    bigSep_univ_eq_bigSepL [none, some true, some false] (by decide) (by decide) (fun a => Φ (.inl a)), bigSepL_cons_cons, bigSepL_cons_cons, bigSepL_singleton,
    bigSep_hops, bigSep_hops, bigSep_hops, bigSep_hops]
  rfl

/-- The positions of a device at the rounds `R`. -/
def posAt (R : CK → ℕ) : sProp 𝕄 := bigSep Finset.univ fun k : CK => atPos ER (cell c k) (R k) ∅ 0

/-- The round every cell ends at. -/
def lastR : CK → ℕ
  | .inl none => 1
  | .inl (some _) => 2
  | .inr _ => 3

/-- Every semaphore of the kernel at zero. -/
def zeros : sProp 𝕄 := bigSep Finset.univ fun k : CK => semVal (cell c k) 0

section Ghost
variable (K : Dev nD × CK → ℕ)

theorem recs_own (b : Bool) :
    iprop(Recs m K ∗ (bigSep (Finset.range 15) fun s => atPos ER (cell c (kSend b (se s))) 0 ∅ 0)
        ∗ bigSep (Finset.range 15) fun s => atPos ER (cell c (kRecv b (se s))) 0 ∅ 0)
      ⊢ Owns c 0 b := by
  have h : ∀ s ∈ Finset.range 15, iprop(Recs m K ∗ atPos ER (cell c (kSend b (se s))) 0 ∅ 0 ∗ atPos ER (cell c (kRecv b (se s))) 0 ∅ 0)
      ⊢ (Own 0 b s c : sProp 𝕄) := fun s _ => by
    unfold Own
    iintro ⟨#HR, H1, H2⟩
    isplitl [H1]; · iexact H1
    isplitl [H2]; · iexact H2
    isplitr; · iapply (recs_reached m K c (kSend b (se s))); iexact HR
    iapply (recs_reached m K c (kRecv b (se s))); iexact HR
  unfold Owns
  refine BI.Entails.trans ?_ (bigSep_mono h)
  rw [bigSep_sep', bigSep_sep']
  exact sep_mono_left (BI.bigSep_of_persistent _ _)

theorem posIn_intro : iprop(Recs m K ∗ posAt c fun _ => 0) ⊢ posIn c := by
  unfold posAt posIn credAt
  rw [bigSep_cells]
  iintro ⟨#HR, ⟨HB, HC⟩, ⟨St, Sf⟩, Rt, Rf⟩
  isplitl [HB]; · iexact HB
  isplitl [HC]; · iexact HC
  isplitl [St Rt]
  · iapply (recs_own m c K true)
    isplitr; · iexact HR
    isplitl [St] <;> iassumption
  iapply (recs_own m c K false)
  isplitr; · iexact HR
  isplitl [Sf] <;> iassumption

theorem owns_pos (l : ℕ) (b : Bool) : Owns c l b
    ⊢ (iprop((bigSep (Finset.range 15) fun s => atPos ER (cell c (kSend b (se s))) l ∅ 0)
        ∗ bigSep (Finset.range 15) fun s => atPos ER (cell c (kRecv b (se s))) l ∅ 0) : sProp 𝕄) := by
  rw [← bigSep_sep']
  unfold Owns
  refine bigSep_mono fun s _ => ?_
  show (Own l b s c : sProp 𝕄) ⊢ iprop(atPos ER (cell c (kSend b (se s))) l ∅ 0 ∗ atPos ER (cell c (kRecv b (se s))) l ∅ 0)
  unfold Own
  iintro ⟨H1, H2, -, -⟩
  isplitl [H1] <;> iassumption

theorem posOut_elim : posOut c ⊢ (posAt c lastR : sProp 𝕄) := by
  unfold posAt posOut credAt
  rw [bigSep_cells]
  iintro ⟨HB, HC, Ot, Of⟩
  ihave Ht := (owns_pos c 3 true) $$ Ot
  ihave Hf := (owns_pos c 3 false) $$ Of
  icases Ht with ⟨St, Rt⟩
  icases Hf with ⟨Sf, Rf⟩
  isplitl [HB HC]
  · isplitl [HB]; · iexact HB
    iexact HC
  isplitl [St Sf]
  · isplitl [St]; · iexact St
    iexact Sf
  isplitl [Rt]; · iexact Rt
  iexact Rf

/-- At the end every cell is closed, its counter at zero. -/
theorem close_cells : iprop(Recs m K ∗ posOut c) ⊢ (|={Set.univ}=> zeros c : sProp 𝕄) := by
  have h := Rounds.cells_close ER (ringRd m) Finset.univ (fun k : CK => cell c k) (fun k => K (c, k)) (Es := Set.univ) (fun _ _ => Set.mem_univ _)
    (fun _ _ h => h) lastR (fun k _ => by
      rcases k with (_ | b) | k
      · exact duties_bar_later m c
      · exact duties_cred_later m c b
      · exact duties_later m c (.inr k))
  have h2 : iprop(Recs m K ∗ posAt c lastR) ⊢ (bigSep Finset.univ fun k : CK => iprop(cellInv ER (ringRd m) (K (c, k)) (cell c k) ∗ atPos ER (cell c k) (lastR k) ∅ 0) : sProp 𝕄) := by
    have h3 : ∀ k ∈ (Finset.univ : Finset CK), iprop(Recs m K ∗ atPos ER (cell c k) (lastR k) ∅ 0)
        ⊢ (iprop(cellInv ER (ringRd m) (K (c, k)) (cell c k) ∗ atPos ER (cell c k) (lastR k) ∅ 0) : sProp 𝕄) := fun k _ => by
      iintro ⟨#HR, H⟩
      isplitr; · iapply (recs_inv m K c k); iexact HR
      iexact H
    refine BI.Entails.trans ?_ (bigSep_mono h3)
    rw [bigSep_sep']
    exact sep_mono_left (BI.bigSep_of_persistent _ _)
  unfold zeros
  iintro ⟨#HR, Hp⟩
  ihave Hp := (posOut_elim c) $$ Hp
  iapply h
  iapply h2
  isplitr; · iexact HR
  iexact Hp

end Ghost

/-! ## What the region starts from -/

/-- What every device knows of the cells. -/
def marks (K : Dev nD × CK → ℕ) : sProp 𝕄 :=
  iprop((bigSep Finset.univ fun ck : Dev nD × CK => cellInv ER (ringRd m) (K ck) (cell ck.1 ck.2))
    ∗ bigSep Finset.univ fun ck : Dev nD × CK => reached ER (cell ck.1 ck.2) 0)

instance marks_persistent (K : Dev nD × CK → ℕ) : BI.Persistent (marks m K) := by unfold marks; infer_instance

/-- The duties of the transfers of layer `l`, -/
def hopTok (l : ℕ) (b : Bool) : sProp 𝕄 :=
  bigSep (Finset.range 15) fun s => iprop(dutyTok ER (cell c (kSend b (se s))) l false ∗ dutyTok ER (cell (nbr b c) (kRecv b (se s))) l false)
/-- and the credits of its landings. -/
def hopCr (l : ℕ) (b : Bool) : sProp 𝕄 :=
  bigSep (Finset.range 15) fun s => cred (tallyAt (cell c (kRecv b (se s))) l N)

/-- All the duties a device pays, -/
def payToks : sProp 𝕄 :=
  iprop(barTok c ∗ (credTok c 0 ∗ credTok c 1) ∗ (hopTok c 0 true ∗ hopTok c 0 false) ∗ (hopTok c 1 true ∗ hopTok c 1 false) ∗ hopTok c 2 true ∗ hopTok c 2 false)
/-- and all the credits it collects. -/
def payCr : sProp 𝕄 :=
  iprop(cred (tallyAt (cell c kBar) 0 2) ∗ (credCr c 0 ∗ credCr c 1) ∗ (hopCr c 0 true ∗ hopCr c 0 false) ∗ (hopCr c 1 true ∗ hopCr c 1 false) ∗ hopCr c 2 true ∗ hopCr c 2 false)

theorem toks_intro (l : ℕ) (b : Bool) : iprop(hopTok c l b ∗ hopCr c l b) ⊢ (Toks c l b : sProp 𝕄) := by
  unfold hopTok hopCr Toks
  rw [← bigSep_sep']
  refine bigSep_mono fun s _ => ?_
  show (iprop((dutyTok ER (cell c (kSend b (se s))) l false ∗ dutyTok ER (cell (nbr b c) (kRecv b (se s))) l false) ∗ cred (tallyAt (cell c (kRecv b (se s))) l N)) : sProp 𝕄) ⊢ Tok l b s c
  unfold Tok
  exact sep_assoc.1

theorem payIn_intro : iprop(payToks c ∗ payCr c) ⊢ (payIn c : sProp 𝕄) := by
  unfold payToks payCr payIn
  iintro ⟨⟨HB, HC, ⟨H1, H2⟩, ⟨H3, H4⟩, H5, H6⟩, GB, GC, ⟨G1, G2⟩, ⟨G3, G4⟩, G5, G6⟩
  isplitl [HB GB]; · isplitl [HB] <;> iassumption
  isplitl [HC]; · iexact HC
  isplitl [GC]; · iexact GC
  isplitl [H1 G1 H2 G2]
  · isplitl [H1 G1]
    · iapply (toks_intro c 0 true); isplitl [H1] <;> iassumption
    iapply (toks_intro c 0 false); isplitl [H2] <;> iassumption
  isplitl [H3 G3 H4 G4]
  · isplitl [H3 G3]
    · iapply (toks_intro c 1 true); isplitl [H3] <;> iassumption
    iapply (toks_intro c 1 false); isplitl [H4] <;> iassumption
  isplitl [H5 G5]
  · iapply (toks_intro c 2 true); isplitl [H5] <;> iassumption
  iapply (toks_intro c 2 false); isplitl [H6] <;> iassumption

def ghost : sProp 𝕄 := iprop(∃ K, marks m K ∗ posAt c (fun _ => 0) ∗ payToks c)

def start : sProp 𝕄 := iprop(ghost m c ∗ payCr c ∗ levAts L lv)

theorem start_open : start m c ⊢ iprop(∃ K, Recs m K ∗ posIn c ∗ payIn c) := by
  unfold start ghost
  iintro ⟨⟨%K, #HM, Hp, Ht⟩, Hc, #HL⟩
  iexists K
  ihave HR := (show iprop(marks m K ∗ levAts L lv) ⊢ Recs m K from by unfold marks Recs; exact sep_assoc.1) $$ []
  · isplitr <;> iassumption
  icases HR with #HR
  isplitr; · iexact HR
  isplitl [Hp]
  · iapply (posIn_intro m c K)
    isplitr; · iexact HR
    iexact Hp
  iapply (payIn_intro c)
  isplitl [Ht] <;> iassumption

/-! ## The region's proof data -/

variable (ρ : Dev nD → PrngReg)

def dats (_ : Fin 1) (c : Dev nD) : Dat τ (Elt F) ℕ ℕ UU ℕ cfg0 c where
  A w := m ((cfg0.win w).arr.view.loc (c : Thread nD τ))
  after w _ := match w with
    | ⟨0, _⟩ => xV m c
    | ⟨1, _⟩ => winV m 0 c
    | ⟨2, _⟩ => woutV m 0 c
    | ⟨3, _⟩ => winV m 1 c
    | ⟨4, _⟩ => woutV m 1 c
    | ⟨5, _⟩ => winV m 2 c
    | ⟨6, _⟩ => woutV m 2 c
    | ⟨7, _⟩ => outV m c
  Φ t := match t with
    | ⟨0, _⟩ => iprop(start m c ∗ scratch c)
    | ⟨_ + 1, _⟩ => iprop(zeros c ∗ scratch c)
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) :=
  bigSep_W0 Φ

/-- What the body ends with. -/
def bodyPost : sProp 𝕄 :=
  iprop((zeros c ∗ scratch c) ∗ (dats m 0 c).owesAt (0 : ℕ) t0_0.succ
    ∗ owns (c : Thread nD τ) xin fullShare (xV m c)
    ∗ owns (c : Thread nD τ) (winM 0) fullShare (winV m 0 c) ∗ owns (c : Thread nD τ) (woutM 0) fullShare (woutV m 0 c)
    ∗ owns (c : Thread nD τ) (winM 1) fullShare (winV m 1 c) ∗ owns (c : Thread nD τ) (woutM 1) fullShare (woutV m 1 c)
    ∗ owns (c : Thread nD τ) (winM 2) fullShare (winV m 2 c) ∗ owns (c : Thread nD τ) (woutM 2) fullShare (woutV m 2 c)
    ∗ owns (c : Thread nD τ) outM fullShare (outV m c))

/-- What the body begins with. -/
def bodyPre : sProp 𝕄 :=
  iprop((start m c ∗ scratch c) ∗ (dats m 0 c).owesAt (0 : ℕ) t0_0.castSucc
    ∗ (∃ d, owns (c : Thread nD τ) xin fullShare ((dats m 0 c).before (0 : Fin 8) t0_0 d))
    ∗ (∃ d, owns (c : Thread nD τ) (winM 0) fullShare ((dats m 0 c).before (1 : Fin 8) t0_0 d)) ∗ (∃ d, owns (c : Thread nD τ) (woutM 0) fullShare ((dats m 0 c).before (2 : Fin 8) t0_0 d))
    ∗ (∃ d, owns (c : Thread nD τ) (winM 1) fullShare ((dats m 0 c).before (3 : Fin 8) t0_0 d)) ∗ (∃ d, owns (c : Thread nD τ) (woutM 1) fullShare ((dats m 0 c).before (4 : Fin 8) t0_0 d))
    ∗ (∃ d, owns (c : Thread nD τ) (winM 2) fullShare ((dats m 0 c).before (5 : Fin 8) t0_0 d)) ∗ (∃ d, owns (c : Thread nD τ) (woutM 2) fullShare ((dats m 0 c).before (6 : Fin 8) t0_0 d))
    ∗ (∃ d, owns (c : Thread nD τ) outM fullShare ((dats m 0 c).before (7 : Fin 8) t0_0 d)))

theorem before_0 (d) : (dats m 0 c).before (0 : Fin 8) t0_0 d = xV m c := by unfold Dat.before; rw [if_pos (fetch0_0 t0_0)]; rfl
theorem before_1 (d) : (dats m 0 c).before (1 : Fin 8) t0_0 d = winV m 0 c := by unfold Dat.before; rw [if_pos (fetch0_1 t0_0)]; rfl
theorem before_2 (d) : (dats m 0 c).before (2 : Fin 8) t0_0 d = woutV m 0 c := by unfold Dat.before; rw [if_pos (fetch0_2 t0_0)]; rfl
theorem before_3 (d) : (dats m 0 c).before (3 : Fin 8) t0_0 d = winV m 1 c := by unfold Dat.before; rw [if_pos (fetch0_3 t0_0)]; rfl
theorem before_4 (d) : (dats m 0 c).before (4 : Fin 8) t0_0 d = woutV m 1 c := by unfold Dat.before; rw [if_pos (fetch0_4 t0_0)]; rfl
theorem before_5 (d) : (dats m 0 c).before (5 : Fin 8) t0_0 d = winV m 2 c := by unfold Dat.before; rw [if_pos (fetch0_5 t0_0)]; rfl
theorem before_6 (d) : (dats m 0 c).before (6 : Fin 8) t0_0 d = woutV m 2 c := by unfold Dat.before; rw [if_pos (fetch0_6 t0_0)]; rfl

/-- An update may be made once the program is done. -/
theorem wp_finish {p : P F PUnit} {Q : PUnit → sProp 𝕄} : (WP c p fun u => iprop(|={Set.univ}=> Q u)) ⊢ (WP c p Q : sProp 𝕄) := by
  unfold WP
  exact wp_fupd _ _ _ p Q

theorem sound_body : bodyPre m c ⊢ WP c prog (fun _ => bodyPost m c) := by
  unfold bodyPre
  simp only [before_0, before_1, before_2, before_3, before_4, before_5, before_6]
  iintro ⟨⟨Hs, Hscr⟩, Ho, ⟨%d0, H0⟩, ⟨%d1, H1⟩, ⟨%d2, H2⟩, ⟨%d3, H3⟩, ⟨%d4, H4⟩, ⟨%d5, H5⟩, ⟨%d6, H6⟩, ⟨%d7, H7⟩⟩
  ihave Hs := (start_open m c) $$ Hs
  icases Hs with ⟨%K, #HR, Hp, Hy⟩
  unfold Dat.owesAt Pipeline.owesWithin
  icases Ho with ⟨%W, %hW, HO⟩
  rw [show (dats m 0 c).owed t0_0.castSucc = O₀ c from rfl]
  iapply (wp_finish c)
  iapply (wp_prog m K c) $$ [Hscr Hp Hy HO H0 H1 H2 H3 H4 H5 H6 H7]
  · isplitr; · iexact HR
    isplitl [Hp]; · iexact Hp
    isplitl [Hy]; · iexact Hy
    isplitl [Hscr]; · iexact Hscr
    isplitl [H0 H1 H2 H3 H4 H5 H6]
    · unfold blocks wts
      isplitl [H0]; · iexact H0
      isplitl [H1 H2]; · isplitl [H1] <;> iassumption
      isplitl [H3 H4]; · isplitl [H3] <;> iassumption
      isplitl [H5] <;> iassumption
    isplitl [H7]; · iexists _; iexact H7
    unfold ow; iexists W; iexact HO
  iintro ⟨Hp, Hscr, Hb, Hout, HO⟩
  imod (close_cells m c K) $$ [Hp] with Hz
  · isplitr; · iexact HR
    iexact Hp
  imodintro
  unfold bodyPost blocks wts ow Dat.owesAt Pipeline.owesWithin
  rw [show (dats m 0 c).owed t0_0.succ = 0 from rfl]
  icases Hb with ⟨H0, ⟨H1, H2⟩, ⟨H3, H4⟩, H5, H6⟩
  icases HO with ⟨%W', HO⟩
  isplitl [Hz Hscr]; · isplitl [Hz] <;> iassumption
  isplitl [HO]
  · iexists W'
    isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact Hout

theorem wp_wrap {p : P F PUnit} {A A' B B' : sProp 𝕄} (h : A' ⊢ A) (hp : A ⊢ WP c p fun _ => B) (h' : B ⊢ B') :
    A' ⊢ wp frame (wpE (defs₀ (F := F)) 𝒱₀ (c : Thread nD τ) none) Set.univ p fun _ => B' :=
  h.trans (hp.trans (wp_mono _ _ _ fun _ => h'))

/-- The library's body obligation on device `c`. -/
theorem body_obligation (c : Dev nD) : BodyObligation (dats (F := F) m 0 c) (defs₀ (F := F)) 𝒱₀ (0 : ℕ) Set.univ := fun t => by
  rw [show t = t0_0 from fin_N0 t, bigSep_W, bigSep_W]
  have hp : defs₀ (F := F) .tc cfg0.body (cfg0.bodyArgs t0_0 (cfg0.slots t0_0)) = prog := body_eq t0_0
  rw [hp]
  have hs := sound_body m c
  clear hp
  revert hs
  generalize (prog (F := F)) = p
  intro hs
  refine wp_wrap c (A := bodyPre m c) (B := bodyPost m c) ?_ hs ?_
  · unfold bodyPre
    exact .rfl
  · unfold bodyPost
    exact .rfl

end Cert.KernelIdeal.Ring

end
-- ==== Proof.K.Launch.lean ====
/-
The launch: how the ring's ghost state is made and dealt to the devices, and the run of the whole program.
-/
module

public import proofs.«01_k».proof.Proof.K.Body
public import Idealize.ShloMosaic.Lib.Pipeline.CollectiveSegs

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Idealize.SL.BI.Laws
open Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## The semaphores -/

/-- The kernel's own semaphores: the credits, the sends and the receives. -/
abbrev OK := Bool ⊕ (Bool × Bool × Fin 15)
def toCK : OK → CK
  | .inl b => .inl (some b)
  | .inr k => .inr k
abbrev osem (k : OK) : SemLoc sig := csem (toCK k)

theorem ownSemFacts : Pipeline.OwnSemFacts cfg0.spec osem := by decide +kernel

theorem bigSep_CK (Φ : CK → sProp 𝕄) : bigSep Finset.univ Φ = iprop(Φ kBar ∗ bigSep Finset.univ fun k : OK => Φ (toCK k)) := by
  rw [bigSep_univ_sum, bigSep_univ_sum (fun k : OK => Φ (toCK k)), bigSep_bool,
    bigSep_univ_eq_bigSepL [none, some true, some false] (by decide) (by decide) (fun a => Φ (.inl a)), bigSepL_cons_cons, bigSepL_cons_cons, bigSepL_singleton]
  exact BI.Entails.antisymm
    (show iprop((Φ kBar ∗ Φ (kCred true) ∗ Φ (kCred false)) ∗ bigSep Finset.univ fun k => Φ (.inr k))
      ⊢ (iprop(Φ kBar ∗ (Φ (kCred true) ∗ Φ (kCred false)) ∗ bigSep Finset.univ fun k => Φ (.inr k)) : sProp 𝕄) from sep_assoc.1)
    (show (iprop(Φ kBar ∗ (Φ (kCred true) ∗ Φ (kCred false)) ∗ bigSep Finset.univ fun k => Φ (.inr k)) : sProp 𝕄)
      ⊢ iprop((Φ kBar ∗ Φ (kCred true) ∗ Φ (kCred false)) ∗ bigSep Finset.univ fun k => Φ (.inr k)) from sep_assoc.2)

omit [FloatOps F] in
/-- The barrier semaphore is the launch's one unscoped semaphore. -/
theorem unscopedSems0_eq (c : Dev nD) : (unscopedSems0 c : sProp 𝕄) = semVal (cell c kBar) 0 := by
  unfold unscopedSems0; rw [bigSep_eq_bigSepL_of_eq [SemLoc.reg barS] (by decide) (by decide)]; rfl

theorem zeros_eq (c : Dev nD) : (zeros c : sProp 𝕄)
    = iprop(unscopedSems0 c ∗ Pipeline.ownSems0 (Ix := ℕ) (Name := ℕ) (U := UU) (Lvl := ℕ) (Val := Elt F) (τ := τ) osem c) := by
  unfold zeros
  rw [bigSep_CK, unscopedSems0_eq]
  rfl

/-! ## The duties, minted per cell and dealt to the devices that pay them -/

/-- A device's duties: the barrier's two, the credits' by round, the transfers' by layer. -/
abbrev TK := Bool ⊕ ((Fin 2 × Bool) ⊕ (Fin 3 × Bool × Bool × Fin 15))

/-- Which cell a duty is on, its round and its name. -/
def tokK : TK → CK × ℕ × Bool
  | .inl d => (kBar, 0, d)
  | .inr (.inl (r, b)) => (kCred b, r.val, false)
  | .inr (.inr (l, b, snd, i)) => (.inr (snd, b, i), l.val, false)

/-- On whose cell device `c` pays it. -/
def payee : TK → Dev nD ≃ Dev nD
  | .inl d => ringE (!d)
  | .inr (.inl (_, b)) => ringE (!b)
  | .inr (.inr (_, _, true, _)) => Equiv.refl _
  | .inr (.inr (_, b, false, _)) => ringE b

theorem tokK_inj : Function.Injective tokK := by
  rintro (d | ⟨r, b⟩ | ⟨l, b, s, i⟩) (d' | ⟨r', b'⟩ | ⟨l', b', s', i'⟩) h
  · simp only [tokK, Prod.mk.injEq] at h; rw [h.2.2]
  · simp [tokK] at h
  · simp [tokK] at h
  · simp [tokK] at h
  · simp only [tokK, Prod.mk.injEq, Sum.inl.injEq, Option.some.injEq] at h
    rw [h.1, Fin.ext h.2.1]
  · simp [tokK] at h
  · simp [tokK] at h
  · simp [tokK] at h
  · simp only [tokK, Prod.mk.injEq, Sum.inr.injEq] at h
    rw [h.1.1, h.1.2.1, h.1.2.2, Fin.ext h.2.1]

abbrev kcell (ck : Dev nD × CK) : GSem nD τ sig := cell ck.1 ck.2
theorem kcell_injective : Function.Injective kcell := fun a b h => Prod.ext (cell_inj h).1 (cell_inj h).2
def ringCells : Finset (GSem nD τ sig) := Finset.univ.map ⟨kcell, kcell_injective⟩

def tokOf (ct : Dev nD × TK) : GSem nD τ sig × ℕ × Bool := (cell ct.1 (tokK ct.2).1, (tokK ct.2).2)
theorem tokOf_injective : Function.Injective tokOf := fun a b h => by
  have h1 := cell_inj (congrArg Prod.fst h)
  have h2 := congrArg Prod.snd h
  exact Prod.ext h1.1 (tokK_inj (Prod.ext h1.2 h2))
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty `t` of device `c`'s cells. -/
def tokAt (t : TK) (c : Dev nD) : sProp 𝕄 := dutyTok ER (cell c (tokK t).1) (tokK t).2.1 (tokK t).2.2
def toks (c : Dev nD) : sProp 𝕄 := bigSep Finset.univ fun t : TK => tokAt t c

/-- What the launch deals device `c`, -/
def G (c : Dev nD) : sProp 𝕄 :=
  iprop((bigSep Finset.univ fun k : CK => roundState ER (ringRd m) (cell c k) 0)
    ∗ (posAt c (fun _ => 0) ∗ bigSep Finset.univ fun k : CK => reached ER (cell c k) 0) ∗ toks c)

omit [FloatOps F] in
theorem fin3_list (Φ : Fin 3 → sProp 𝕄) : bigSep Finset.univ Φ = iprop(Φ 0 ∗ Φ 1 ∗ Φ 2) := bigSep_univ_eq_bigSepL [0, 1, 2] (by decide) (by decide) Φ
omit [FloatOps F] in
theorem fin2_list (Φ : Fin 2 → sProp 𝕄) : bigSep Finset.univ Φ = iprop(Φ 0 ∗ Φ 1) := bigSep_univ_eq_bigSepL [0, 1] (by decide) (by decide) Φ

/-- The duties a device pays, as its list names them. -/
theorem payToks_eq (c : Dev nD) : (payToks c : sProp 𝕄) = bigSep Finset.univ fun t : TK => tokAt t (payee t c) := by
  have h : ∀ (l : Fin 3) (b : Bool), (hopTok c l.val b : sProp 𝕄)
      = bigSep Finset.univ fun s : Bool => bigSep Finset.univ fun i : Fin 15 => tokAt (.inr (.inr (l, b, s, i))) (payee (.inr (.inr (l, b, s, i))) c) := fun l b => by
    rw [bigSep_bool, bigSep_hops, bigSep_hops]
    unfold hopTok
    rw [bigSep_sep']
    rfl
  rw [bigSep_univ_sum, bigSep_bool, bigSep_univ_sum, bigSep_univ_prod (fun rb : Fin 2 × Bool => tokAt (F := F) (.inr (.inl rb)) (payee (.inr (.inl rb)) c)), fin2_list,
    bigSep_bool, bigSep_bool, bigSep_univ_prod (fun lb : Fin 3 × Bool × Bool × Fin 15 => tokAt (F := F) (.inr (.inr lb)) (payee (.inr (.inr lb)) c)), fin3_list]
  have h' : ∀ l : Fin 3, (bigSep Finset.univ fun k : Bool × Bool × Fin 15 => tokAt (F := F) (.inr (.inr (l, k))) (payee (.inr (.inr (l, k))) c))
      = iprop(hopTok c l.val true ∗ hopTok c l.val false) := fun l => by
    rw [bigSep_univ_prod, bigSep_bool, bigSep_univ_prod, bigSep_univ_prod, h, h]
  rw [h', h', h']
  rfl

omit [FloatOps F] in
/-- The duties dealt around the ring. -/
theorem toks_around : (bigSep Finset.univ fun c : Dev nD => (toks (F := F) c : sProp 𝕄))
    = bigSep Finset.univ fun c : Dev nD => bigSep Finset.univ fun t : TK => tokAt t (payee t c) := by
  unfold toks
  rw [bigSep_univ_comm, bigSep_congr (s := Finset.univ) (fun (t : TK) _ => bigSep_univ_equiv (payee t) (fun c : Dev nD => tokAt (F := F) t c)), bigSep_univ_comm]

omit [FloatOps F] in
theorem fund_ring [FloatOps F] : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G posAt; simp only [bigSep_sep']
  isplitl [Hst']; · iexact Hst'
  isplitl [Hat' Hr']
  · isplitl [Hat'] <;> iassumption
  iexact Htok'

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (cell c k)))
          ∗ (posAt c (fun _ => 0) ∗ bigSep Finset.univ fun k : CK => reached ER (cell c k) 0) ∗ toks c) := by
  unfold G
  iintro ⟨Hos, Hus, Hst, Hat, Htok⟩
  ihave Hv := (Entails.of_eq (zeros_eq (F := F) c).symm) $$ [Hos Hus]
  · isplitl [Hus] <;> iassumption
  imod (show iprop(zeros c ∗ bigSep Finset.univ fun k : CK => roundState ER (ringRd m) (cell c k) 0)
      ⊢ (|={Set.univ}=> bigSep Finset.univ fun k => iprop(∃ κ : ℕ, cellInv ER (ringRd m) κ (cell c k)) : sProp 𝕄) from by
        unfold zeros
        rw [← bigSep_sep']
        exact (bigSep_mono fun k _ => (Rounds.body_intro ER (ringRd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m) κ (cell c k)))
          ∗ (posAt c (fun _ => 0) ∗ bigSep Finset.univ fun k : CK => reached ER (cell c k) 0) ∗ toks c) : sProp 𝕄)
      ⊢ bigSep Finset.univ (ghost m) := by
  rw [bigSep_sep', bigSep_sep', bigSep_sep', ← bigSep_univ_prod (fun ck : Dev nD × CK => iprop(∃ κ : ℕ, cellInv ER (ringRd m) κ (cell ck.1 ck.2))),
    ← bigSep_univ_prod (fun ck : Dev nD × CK => (reached ER (cell ck.1 ck.2) 0 : sProp 𝕄)), toks_around]
  iintro ⟨HI, ⟨Hat, #HR⟩, Htok⟩
  ihave HK := (BI.bigSep_exists_pi Finset.univ (fun (ck : Dev nD × CK) (κ : ℕ) => (cellInv ER (ringRd m) κ (cell ck.1 ck.2) : sProp 𝕄))) $$ HI
  icases HK with ⟨%K, #HI⟩
  iapply (bigSep_with (R := marks m K) (Φ := fun c => iprop(posAt c (fun _ => 0) ∗ payToks c)) fun c _ => show iprop(marks m K ∗ posAt c (fun _ => 0) ∗ payToks c) ⊢ ghost m c from by
    unfold ghost
    iintro H
    iexists K
    iexact H)
  isplitr
  · unfold marks; isplitl; · iexact HI
    iexact HR
  rw [bigSep_sep', bigSep_congr (s := Finset.univ) (fun (c : Dev nD) _ => payToks_eq (F := F) c)]
  isplitl [Hat]; · iexact Hat
  iexact Htok

/-- The global step, on the semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The credits -/

section Credits
variable (c : Dev nD)

theorem credits_ring (b : Bool) (k : CK) (l n : ℕ) :
    (Pipeline.launchCred (fun d => (tallyAt (cell (nbr b d) k) l n : CellTallies nD τ sig ℕ)) c : sProp 𝕄) ⊢ cred (tallyAt (cell c k) l n) :=
  Pipeline.launchCred_tallyAt (csem k) (nbr b) (up b) (nbr_up b) (up_nbr b) l n c

theorem credits_up (b : Bool) (k : CK) (l n : ℕ) :
    (Pipeline.launchCred (fun d => (tallyAt (cell (up b d) k) l n : CellTallies nD τ sig ℕ)) c : sProp 𝕄) ⊢ cred (tallyAt (cell c k) l n) :=
  Pipeline.launchCred_tallyAt (csem k) (up b) (nbr b) (up_nbr b) (nbr_up b) l n c

/-- The landing credits of `n` hops of layer `l` from hop `j` on. -/
def hopCrs (l : ℕ) (b : Bool) (n j : ℕ) : sProp 𝕄 := bigSep (Finset.range n) fun s => cred (tallyAt (cell c (kRecv b (se (j + s)))) l N)

theorem hopCrs_succ (l : ℕ) (b : Bool) (n j : ℕ) :
    (hopCrs c l b (n + 1) j : sProp 𝕄) = iprop(cred (tallyAt (cell c (kRecv b (se j))) l N) ∗ hopCrs c l b n (j + 1)) := by
  unfold hopCrs
  have h : (bigSep (Finset.range n) fun s => (cred (tallyAt (cell c (kRecv b (se (j + (s + 1))))) l N) : sProp 𝕄))
      = bigSep (Finset.range n) fun s => cred (tallyAt (cell c (kRecv b (se (j + 1 + s)))) l N) :=
    bigSep_congr fun s _ => by rw [show j + (s + 1) = j + 1 + s by omega]
  rw [Finset.range_add_one', bigSep_insert (by simp), bigSep_map, ← h]
  rfl

theorem credits_hops (l : ℕ) : ∀ (n j : ℕ) (R : Dev nD → CellTallies nD τ sig ℕ),
    (Pipeline.launchCred (fun d => hopsO d l n j (R d)) c : sProp 𝕄)
      ⊢ iprop(Pipeline.launchCred R c ∗ hopCrs c l true n j ∗ hopCrs c l false n j)
  | 0, j, R => by
    show (Pipeline.launchCred R c : sProp 𝕄) ⊢ _
    unfold hopCrs
    simp only [Finset.range_zero, BI.bigSep_empty]
    iintro H
    isplitl [H]; · iexact H
    isplitl <;> iempintro
  | n + 1, j, R => by
    show (Pipeline.launchCred (fun d => (hopsO d l n (j + 1) (R d) + hopO d l j false) + hopO d l j true) c : sProp 𝕄) ⊢ _
    rw [Pipeline.launchCred_add (fun d => hopsO d l n (j + 1) (R d) + hopO d l j false), Pipeline.launchCred_add (fun d => hopsO d l n (j + 1) (R d)), hopCrs_succ, hopCrs_succ]
    unfold hopO
    iintro ⟨⟨H, Hf⟩, Ht⟩
    ihave H := (credits_hops l n (j + 1) R) $$ H
    ihave Hf := (credits_ring c false _ _ _) $$ Hf
    ihave Ht := (credits_ring c true _ _ _) $$ Ht
    icases H with ⟨HR, Gt, Gf⟩
    isplitl [HR]; · iexact HR
    isplitl [Ht Gt]
    · isplitl [Ht] <;> iassumption
    isplitl [Hf] <;> iassumption

theorem credits_layer (l : ℕ) (R : Dev nD → CellTallies nD τ sig ℕ) :
    (Pipeline.launchCred (fun d => hopsO d l 15 0 (R d)) c : sProp 𝕄)
      ⊢ iprop(Pipeline.launchCred R c ∗ hopCr c l true ∗ hopCr c l false) := by
  have h : ∀ b, (hopCrs c l b 15 0 : sProp 𝕄) = hopCr c l b := fun b => by
    unfold hopCrs hopCr
    simp only [Nat.zero_add]
  have h2 := credits_hops (F := F) c l 15 0 R
  rwa [h, h] at h2

theorem credits_between (l : ℕ) (R : Dev nD → CellTallies nD τ sig ℕ) :
    (Pipeline.launchCred (fun d => (R d + credO d l false) + credO d l true) c : sProp 𝕄)
      ⊢ iprop(Pipeline.launchCred R c ∗ credCr c l) := by
  rw [Pipeline.launchCred_add (fun d => R d + credO d l false), Pipeline.launchCred_add R]
  unfold credO credCr
  iintro ⟨⟨H, Hf⟩, Ht⟩
  ihave Hf := (credits_up c false _ _ _) $$ Hf
  ihave Ht := (credits_up c true _ _ _) $$ Ht
  isplitl [H]; · iexact H
  isplitl [Ht] <;> iassumption

theorem credits_bar (R : Dev nD → CellTallies nD τ sig ℕ) :
    (Pipeline.launchCred (fun d => (R d + barO d false) + barO d true) c : sProp 𝕄)
      ⊢ iprop(Pipeline.launchCred R c ∗ cred (tallyAt (cell c kBar) 0 2)) := by
  rw [Pipeline.launchCred_add (fun d => R d + barO d false), Pipeline.launchCred_add R,
    show (tallyAt (cell c kBar) 0 2 : CellTallies nD τ sig ℕ) = tallyAt (cell c kBar) 0 1 + tallyAt (cell c kBar) 0 1 from (tallyAt_add _ _ 1 1).symm]
  unfold barO
  iintro ⟨⟨H, Hf⟩, Ht⟩
  ihave Hf := (credits_up c false _ _ _) $$ Hf
  ihave Ht := (credits_up c true _ _ _) $$ Ht
  isplitl [H]; · iexact H
  iapply (cred_add _ _).2
  isplitl [Ht] <;> iassumption

/-- The launch's credits are those the device collects. -/
theorem creds : (Pipeline.launchCred O₀ c : sProp 𝕄) ⊢ payCr c := by
  unfold payCr
  iintro H
  ihave H := (show (Pipeline.launchCred O₀ c : sProp 𝕄) ⊢ _ from credits_bar c (fun d => hopsO d 0 15 0 (owe0 d))) $$ H
  icases H with ⟨H, HB⟩
  ihave H := (credits_layer c 0 owe0) $$ H
  icases H with ⟨H, H0⟩
  ihave H := (show (Pipeline.launchCred owe0 c : sProp 𝕄) ⊢ _ from credits_between c 0 (fun d => hopsO d 1 15 0 (owe1 d))) $$ H
  icases H with ⟨H, C0⟩
  ihave H := (credits_layer c 1 owe1) $$ H
  icases H with ⟨H, H1⟩
  ihave H := (show (Pipeline.launchCred owe1 c : sProp 𝕄) ⊢ _ from credits_between c 1 (fun d => hopsO d 2 15 0 (owe2 d))) $$ H
  icases H with ⟨H, C1⟩
  ihave H := (credits_layer c 2 owe2) $$ H
  icases H with ⟨-, H2⟩
  isplitl [HB]; · iexact HB
  isplitl [C0 C1]; · isplitl [C0] <;> iassumption
  isplitl [H0]; · iexact H0
  isplitl [H1]; · iexact H1
  iexact H2

end Credits

/-! ## The scratch buffers -/

omit [FloatOps F] in
theorem some_whole (c : Dev nD) (b : Ref sig .tc) :
    (iprop(∃ V, owns (Ix := ℕ) (Name := ℕ) (U := UU) (Lvl := ℕ) (c : Thread nD τ) (Memref.whole b) fullShare V) : sProp 𝕄)
      = iprop(∃ f : Buf (Elt F) ((c : Thread nD τ).loc b), ((c : Thread nD τ).loc b) ↦{fullShare} f) := by
  unfold owns
  simp only [Memref.view_whole, View.read_whole, View.set_whole]
  refine BI.Entails.antisymm
    (show (iprop(∃ V : Buf (Elt F) ((c : Thread nD τ).loc b), ∃ f : Buf (Elt F) ((c : Thread nD τ).loc b), ⌜f = V⌝ ∗ (((c : Thread nD τ).loc b) ↦{fullShare} f)) : sProp 𝕄)
      ⊢ iprop(∃ f : Buf (Elt F) ((c : Thread nD τ).loc b), ((c : Thread nD τ).loc b) ↦{fullShare} f) from ?_)
    (show (iprop(∃ f : Buf (Elt F) ((c : Thread nD τ).loc b), ((c : Thread nD τ).loc b) ↦{fullShare} f) : sProp 𝕄)
      ⊢ iprop(∃ V : Buf (Elt F) ((c : Thread nD τ).loc b), ∃ f : Buf (Elt F) ((c : Thread nD τ).loc b), ⌜f = V⌝ ∗ (((c : Thread nD τ).loc b) ↦{fullShare} f)) from ?_)
  · iintro ⟨%V, %f, -, H⟩
    iexists f
    iexact H
  · iintro ⟨%f, H⟩
    iexists f, f
    isplitr; · ipureintro; rfl
    iexact H

omit [FloatOps F] in
theorem wbuf_set : ∀ b, (wbuf b).view.set = Finset.univ
  | true => View.set_whole _
  | false => View.set_whole _

theorem slots_whole (c : Dev nD) (b : Bool) :
    (iprop(∃ f, (wbuf b).view.loc (c : Thread nD τ) ↦{fullShare} f) : sProp 𝕄)
      ⊢ bigSep Finset.univ fun i : Fin 16 => iprop(∃ X, slotP (F := F) b i c fullShare X) := by
  iintro ⟨%f, H⟩
  iapply (slots_of_buf b c f)
  rw [wbuf_set b]
  iexact H

theorem whole_slots (c : Dev nD) (b : Bool) (f₀ : Buf (Elt F) ((wbuf b).view.loc (c : Thread nD τ))) :
    (bigSep Finset.univ fun i : Fin 16 => iprop(∃ X, slotP (F := F) b i c fullShare X))
      ⊢ (iprop(∃ f, (wbuf b).view.loc (c : Thread nD τ) ↦{fullShare} f) : sProp 𝕄) := by
  have h := buf_of_slots (F := F) b c f₀
  rw [wbuf_set b] at h
  exact h

theorem scratch_intro (c : Dev nD) : (Pipeline.scopedRest (Ix := ℕ) (Name := ℕ) (U := UU) (Lvl := ℕ) (Val := Elt F) cfg0.spec c : sProp 𝕄) ⊢ scratch c := by
  rw [scopedRest0_eq]
  unfold scratch
  iintro ⟨H0, H1, H2, H3, H4⟩
  isplitl [H2]; · iapply (Entails.of_eq (some_whole c cc0_scratch2).symm); iexact H2
  isplitl [H3]; · iapply (Entails.of_eq (some_whole c cc0_scratch3).symm); iexact H3
  isplitl [H4]; · iapply (Entails.of_eq (some_whole c cc0_scratch4).symm); iexact H4
  isplitl [H0]
  · iapply (slots_whole c true); iexact H0
  iapply (slots_whole c false); iexact H1

theorem scratch_exit (m : (ℓ : Loc nD τ sig) → Buf (Elt F) ℓ) (c : Dev nD) : scratch c ⊢ (Pipeline.scopedRest (Ix := ℕ) (Name := ℕ) (U := UU) (Lvl := ℕ) (Val := Elt F) cfg0.spec c : sProp 𝕄) := by
  rw [scopedRest0_eq]
  unfold scratch
  iintro ⟨H2, H3, H4, H0, H1⟩
  isplitl [H0]; · iapply (whole_slots c true (m _)); iexact H0
  isplitl [H1]; · iapply (whole_slots c false (m _)); iexact H1
  isplitl [H2]; · iapply (Entails.of_eq (some_whole c cc0_scratch2)); iexact H2
  isplitl [H3]; · iapply (Entails.of_eq (some_whole c cc0_scratch3)); iexact H3
  iapply (Entails.of_eq (some_whole c cc0_scratch4)); iexact H4

/-! ## The side conditions and the run -/

variable (ρ : Dev nD → PrngReg)

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scratch c) from rfl]
  iintro ⟨Hs, -, Hr⟩
  isplitl [Hs]; · iexact Hs
  iapply (scratch_intro c); iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(zeros c ∗ scratch c) from rfl, zeros_eq]
  iintro ⟨⟨Hu, Ho⟩, Hr⟩
  isplitl [Hu]; · iexact Hu
  isplitl [Ho]; · iexact Ho
  iapply (scratch_exit m c); iexact Hr

theorem kindOf_none {s : SemLoc sig} (h : ∀ k, csem k ≠ s) : kindOf s = none := dif_neg fun ⟨k, hk⟩ => h k hk

theorem stage_ne : ∀ (w : Fin cfg0.W) (s : Fin (cfg0.win w).nbuf) (k : CK), csem k ≠ .dma ((cfg0.win w).sem s) := by decide +kernel

theorem stage_waits (c : Dev nD) : (levAts L lv : sProp 𝕄) ⊢ Pipeline.cellsWaits cfgs (dats m) (0 : ℕ) 0 c :=
  Pipeline.cellsWaits_intro cfgs (dats m) (0 : ℕ) 0 c fun w s t =>
    mayWait (n := 0) c _ 0 (by decide) (by unfold lv; rw [kindOf_none (stage_ne w s)]; exact le_refl 0) (by
      rcases t with ⟨_ | _, ht⟩
      · exact above_O₀ c
      · exact above_zero 0)

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 200000 in
/-- From any memory with zero counters every weakly fair execution terminates, with each device's result array at the
    computed contents, the other arrays as the transfers leave them, and every semaphore counter at zero. -/
theorem run_main : θ_run defs (onTc (τ := τ) (main (F := F))) (⟨m, fun _ => 0, ρ⟩ : MemSt nD τ sig (Elt F)) (fun r => QC m r ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := stage_waits m)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Ring

end
-- ==== Proof.K.Result.lean ====
/-
What the run leaves in the arrays: the arguments as they were, the result array at `outV`.
-/
module

public import proofs.«01_k».proof.Proof.K.Launch

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase
open Idealize.SL.BI.Laws
open Idealize.SL.ProofMode
open Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

variable (ρ : Dev nD → PrngReg)

theorem finalA_in (c : Dev nD) (w : Fin cfg0.W) (hw : (cfg0.win w).isOut = false) : finalA m c w = m ((cfg0.win w).arr.view.loc (c : Thread nD τ)) :=
  (dats m 0 c).arrAt_in w hw _

/-- The result window's one block, read back, is what the body left in its buffer. -/
theorem finalA_read (c : Dev nD) : (win0_7.blk (0 : Fin 1)).view.read (Elt F) (finalA m c (7 : Fin 8)) = outV m c := by
  unfold finalA
  rw [show cfg0.N = ((0 : Fin 1) : Fin cfg0.N).val + 1 from rfl, (dats m 0 c).arrAt_succ (7 : Fin 8) (0 : Fin 1)]
  rw [show (cfg0.win (7 : Fin 8)).flush (0 : Fin 1) = true from by decide, if_pos rfl]
  exact View.read_write_univ _ _

theorem finalA_out (c : Dev nD) : finalA m c (7 : Fin 8) = outV m c := by
  have hz : (fun a => (win0_7.index (0 : Fin 1)) a * main_v1.ty.shape.size a) = fun _ => 0 :=
    funext fun a => by fin_cases a <;> decide
  exact (Memref.read_access_unit_zero (Elt F) main_v1 hz (fun a => by fin_cases a <;> decide) _).symm.trans (finalA_read m c)

/-- The argument arrays on device `c` end as they were. -/
def argsKept (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

theorem run_result : θ_run defs (onTc (τ := τ) (main (F := F))) (⟨m, fun _ => 0, ρ⟩ : MemSt nD τ sig (Elt F)) (fun r =>
    (∀ c : Dev nD, r.2.mem ((c : Thread nD τ).loc main_v1) = outV m c ∧ argsKept m c r.2) ∧ r.2.sem = fun _ => 0) :=
  (θ_run defs _ _).mono (fun r h => ⟨fun c =>
    ⟨(h.1 c (7 : Fin 8)).trans (finalA_out m c), (h.1 c (0 : Fin 8)).trans (finalA_in m c _ rfl), (h.1 c (1 : Fin 8)).trans (finalA_in m c _ rfl),
      (h.1 c (2 : Fin 8)).trans (finalA_in m c _ rfl), (h.1 c (3 : Fin 8)).trans (finalA_in m c _ rfl), (h.1 c (4 : Fin 8)).trans (finalA_in m c _ rfl),
      (h.1 c (5 : Fin 8)).trans (finalA_in m c _ rfl), (h.1 c (6 : Fin 8)).trans (finalA_in m c _ rfl)⟩, h.2⟩) (run_main m ρ)

/-! ## The argument blocks are the arrays -/

theorem xV_eq (c : Dev nD) : xV m c = m ((c : Thread nD τ).loc main_arg0) :=
  Memref.read_access_unit_zero (Elt F) main_arg0 (funext fun a => by fin_cases a <;> decide) (fun a => by fin_cases a <;> decide) _
theorem winV0_eq (c : Dev nD) : winV m 0 c = m ((c : Thread nD τ).loc main_arg1) :=
  Memref.read_access_unit_zero (Elt F) main_arg1 (funext fun a => by fin_cases a <;> decide) (fun a => by fin_cases a <;> decide) _
theorem woutV0_eq (c : Dev nD) : woutV m 0 c = m ((c : Thread nD τ).loc main_arg2) :=
  Memref.read_access_unit_zero (Elt F) main_arg2 (funext fun a => by fin_cases a <;> decide) (fun a => by fin_cases a <;> decide) _
theorem winV1_eq (c : Dev nD) : winV m 1 c = m ((c : Thread nD τ).loc main_arg3) :=
  Memref.read_access_unit_zero (Elt F) main_arg3 (funext fun a => by fin_cases a <;> decide) (fun a => by fin_cases a <;> decide) _
theorem woutV1_eq (c : Dev nD) : woutV m 1 c = m ((c : Thread nD τ).loc main_arg4) :=
  Memref.read_access_unit_zero (Elt F) main_arg4 (funext fun a => by fin_cases a <;> decide) (fun a => by fin_cases a <;> decide) _
theorem winV2_eq (c : Dev nD) : winV m 2 c = m ((c : Thread nD τ).loc main_arg5) :=
  Memref.read_access_unit_zero (Elt F) main_arg5 (funext fun a => by fin_cases a <;> decide) (fun a => by fin_cases a <;> decide) _
theorem woutV2_eq (c : Dev nD) : woutV m 2 c = m ((c : Thread nD τ).loc main_arg6) :=
  Memref.read_access_unit_zero (Elt F) main_arg6 (funext fun a => by fin_cases a <;> decide) (fun a => by fin_cases a <;> decide) _

end Cert.KernelIdeal.Ring

end
-- ==== Proof.Value.Sum.lean ====
/-
The sum over the hidden units, cut as the ring cuts it: into sixteen devices' blocks of 512, each of two
halves of 256, and run through in the order in which the blocks arrive at a device.
-/
module

public import proofs.«01_k».proof.Proof.K.Cells
public import Mathlib.Algebra.BigOperators.Fin
public import Mathlib.Data.EReal.Operations

@[expose] public section

noncomputable section

namespace Cert.KernelIdeal.Ring

open Cert.KernelIdeal
open Idealize.ShloMosaic

/-- Hidden unit `q` of device `d`. -/
def unit (d : Fin 16) (q : Fin 512) : Fin 8192 := ⟨d.val * 512 + q.val, by have := d.isLt; have := q.isLt; omega⟩

/-- A place in the half of a block that direction `b` streams. -/
def inHalf (b : Bool) (q : Fin 256) : Fin 512 := ⟨(if b then 0 else 256) + q.val, by have := q.isLt; split <;> omega⟩

theorem src_bijective : ∀ (b : Bool) (c : Dev nD), Function.Injective fun s : Fin 16 => src b s.val c := by
  have h : ∀ (b : Bool) (c : Dev nD) (s s' : Fin 16), src b s.val c = src b s'.val c → s = s' := by decide +kernel
  exact fun b c s s' => h b c s s'

/-- The devices upstream of `c`, at distances 0 to 15, are all the devices. -/
theorem sum_src (b : Bool) (c : Dev nD) (f : Dev nD → EReal) :
    ∑ s ∈ Finset.range 16, f (src b s c) = ∑ d, f d := by
  rw [Finset.sum_range]
  exact ((Finite.injective_iff_bijective (α := Fin 16)).mp (src_bijective b c)).sum_comp f

/-- An accumulator that starts from the own two halves, and takes at each step one half of a device upstream in each of
    the two directions, ends with both halves of every device. -/
theorem ring_sum (c : Dev nD) (U V : Dev nD → EReal) (A : ℕ → EReal) (h0 : A 0 = U c + V c)
    (hs : ∀ s, A (s + 1) = A s + U (src true (s + 1) c) + V (src false (s + 1) c)) : A 15 = ∑ d, (U d + V d) := by
  have h : ∀ n, A n = ∑ s ∈ Finset.range (n + 1), U (src true s c) + ∑ s ∈ Finset.range (n + 1), V (src false s c) := by
    intro n
    induction n with
    | zero => rw [h0]; simp [src_zero]
    | succ n ih =>
        rw [hs, ih, Finset.sum_range_succ _ (n + 1), Finset.sum_range_succ (fun s => V (src false s c)) (n + 1)]
        rw [add_assoc, add_add_add_comm]
  rw [h 15, sum_src true c U, sum_src false c V, Finset.sum_add_distrib]

/-- A sum over 512 places is the sum over the two halves. -/
theorem sum_halves (g : Fin 512 → EReal) : ∑ q, g q = ∑ q, g (inHalf true q) + ∑ q, g (inHalf false q) := by
  rw [show (∑ q, g q) = _ from Fin.sum_univ_add (a := 256) (b := 256) g]
  refine congrArg₂ (· + ·) (Finset.sum_congr rfl fun q _ => congrArg g (Fin.ext ?_)) (Finset.sum_congr rfl fun q _ => congrArg g (Fin.ext ?_))
  · simp [inHalf]
  · simp [inHalf, Nat.add_comm]

/-- A sum over all hidden units is the sum over the devices and over each device's units. -/
theorem sum_units (T : Fin 8192 → EReal) : ∑ h, T h = ∑ d : Fin 16, ∑ q : Fin 512, T (unit d q) := by
  rw [← Fintype.sum_prod_type' (f := fun d q => T (unit d q))]
  refine (Fintype.sum_equiv (finProdFinEquiv (m := 16) (n := 512)) _ _ fun p => congrArg T (Fin.ext ?_)).symm
  simp only [unit, finProdFinEquiv_apply_val]
  omega

end Cert.KernelIdeal.Ring

end
-- ==== Proof.Value.Mlp.lean ====
/-
What a layer computes at the ideal values, read at an index: the product with the own blocks, the contribution
of one slot, and the layer of the reference are all sums, over some of the hidden units, of one term per unit.
-/
module

public import proofs.«01_k».proof.Proof.K.Layer
public import proofs.«01_k».proof.Proof.Gen.ReferenceIdeal.Run
public import proofs.«01_k».proof.Proof.Value.Sum
public import Idealize.ShloMosaic.Lib.MatmulPlain
public import Idealize.ShloMosaic.Lib.StackMember
public import Idealize.ShloMosaic.Lib.Pipeline.Value
public import Idealize.ShloMosaic.Lib.Layout

@[expose] public section

set_option maxRecDepth 16384

noncomputable section

namespace Cert.KernelIdeal.Ring

open Cert.KernelIdeal Cert.KernelIdeal.Gen
open Idealize.ShloMosaic
open Idealize.ShloMosaic.ValueIdx
open Idealize.ShloMosaic.TcCoe

/-- What hidden unit `h` contributes to entry `(r, j)` of a layer's result, of activations `X` and weights `W` and `O`. -/
def term {M H : ℕ} (X : (⟨2, ![M, 256]⟩ : Shape).Idx → EReal) (W : (⟨2, ![256, H]⟩ : Shape).Idx → EReal)
    (O : (⟨2, ![H, 256]⟩ : Shape).Idx → EReal) (r : Fin M) (j : Fin 256) (h : Fin H) : EReal :=
  max (∑ k : Fin 256, X (ix2 r k) * W (ix2 k h)) 0 * O (ix2 h j)

/-- A product onto the zero splat is the plain sum. -/
theorem matmul_zero_apply {M K N : ℕ} {φ₁ φ₂ : FTy} (A : FVec Ideal ⟨2, ![M, K]⟩ φ₁) (B : FVec Ideal ⟨2, ![K, N]⟩ φ₂)
    (r : Fin M) (j : Fin N) :
    (FloatOps.matmul (DotDims.plain M K N) none A B (constant ⟨2, ![M, N]⟩ .f32 0x00000000#32) (ix2 r j) : EReal)
      = ∑ k : Fin K, (A (ix2 r k) * B (ix2 k j) : EReal) := by
  rw [Ideal.matmul_plain_apply]
  show Ideal.ofBits .f32 0x00000000#32 + _ = _
  rw [Ideal.ofBits_zero_f32, zero_add]

/-- Two products with a rectifier between them, both onto the zero splat, are the sum of the terms; the format in which
    the hidden units are handed on does not matter. -/
theorem two_products {M H : ℕ} {φ₁ φ₂ φ₃ φ₄ : FTy} (X : FVec Ideal ⟨2, ![M, 256]⟩ φ₁) (W : FVec Ideal ⟨2, ![256, H]⟩ φ₂)
    (O : FVec Ideal ⟨2, ![H, 256]⟩ φ₃) (hid : FVec Ideal ⟨2, ![M, H]⟩ φ₄)
    (hh : ∀ r q, (hid (ix2 r q) : EReal)
      = max (FloatOps.matmul (DotDims.plain M 256 H) none X W (constant ⟨2, ![M, H]⟩ .f32 0x00000000#32) (ix2 r q) : EReal)
          (Ideal.ofBits .f32 0x00000000#32))
    (r : Fin M) (j : Fin 256) :
    (FloatOps.matmul (DotDims.plain M H 256) none hid O (constant ⟨2, ![M, 256]⟩ .f32 0x00000000#32) (ix2 r j) : EReal)
      = ∑ h, term X W O r j h := by
  rw [matmul_zero_apply]
  refine Finset.sum_congr rfl fun q _ => ?_
  rw [hh r q, matmul_zero_apply, Ideal.ofBits_zero_f32]
  rfl

/-- The product with the own blocks sums over the own hidden units. -/
theorem own_apply (X : Vec Ideal S512x256 .f32) (W : Vec Ideal S256x512 .f32) (O : Vec Ideal S512x256 .f32)
    (r : Fin 512) (j : Fin 256) : (k0_pay9 X W O (ix2 r j) : EReal) = ∑ h, term X W O r j h := by
  unfold k0_pay9
  simp only [shapeCast_self]
  exact two_products (M := 512) (H := 512) (φ₁ := .f32) (φ₂ := .f32) (φ₃ := .f32) (φ₄ := .f32) X W O _ (fun _ _ => rfl) r j

/-- A slot's contribution adds the sum over the hidden units whose weights the slot holds. -/
theorem contrib_apply (X : Vec Ideal S512x256 .f32) (wi : Vec Ideal S256x256 .f32) (a : Vec Ideal S512x256 .f32)
    (wo : Vec Ideal S256x256 .f32) (r : Fin 512) (j : Fin 256) :
    (contrib (k0_pay8 X) (castHalf wi) a (castHalf wo) (ix2 r j) : EReal)
      = (a (ix2 r j) : EReal) + ∑ h, term X wi wo r j h := by
  unfold contrib castHalf k0_pay10 k0_pay8 k0_pay3
  simp only [shapeCast_self, shapeCast_shapeCast]
  refine congrArg (fun z : EReal => (a (ix2 r j) : EReal) + z) ?_
  exact two_products (M := 512) (H := 256) (φ₁ := .bf16) (φ₂ := .bf16) (φ₃ := .bf16) (φ₄ := .bf16) X wi wo _ (fun _ _ => rfl) r j

end Cert.KernelIdeal.Ring

namespace Cert.ReferenceIdeal.Value

open Cert.ReferenceIdeal Cert.ReferenceIdeal.Gen
open Idealize.ShloMosaic
open Idealize.ShloMosaic.ValueIdx
open Cert.KernelIdeal.Ring (term)

/-- A layer of the reference. -/
def layer (X : FVec Ideal S8192x256 .f32) (W : FVec Ideal S256x8192 .f32) (O : FVec Ideal S8192x256 .f32) :
    FVec Ideal S8192x256 .f32 :=
  Host.dotGeneral dot_S8192x8192_S8192x256_S8192x256_1_0_0_1_n_n none
    (maximumf (Host.dotGeneral dot_S8192x256_S256x8192_S8192x8192_1_0_0_1_n_n none X W)
      (broadcastInDim S8192x8192 ![] bcast_S_S8192x8192 (constant S_ .f32 0x00000000#32))) O

/-- A layer of the reference sums over all hidden units. -/
theorem layer_apply (X : FVec Ideal S8192x256 .f32) (W : FVec Ideal S256x8192 .f32) (O : FVec Ideal S8192x256 .f32)
    (r : Fin 8192) (j : Fin 256) : (layer X W O (ix2 r j) : EReal) = ∑ h, term X W O r j h := by
  have h1 : ∀ h : Fin 8192, (Host.dotGeneral dot_S8192x256_S256x8192_S8192x8192_1_0_0_1_n_n none X W (ix2 r h) : EReal)
      = ∑ k : Fin 256, (X (ix2 r k) * W (ix2 k h) : EReal) := fun h =>
    StackMember.dotGeneral_plain_apply (m := 8192) (k := 256) (n := 8192) none X W r h
  unfold layer
  refine (StackMember.dotGeneral_plain_apply (m := 8192) (k := 8192) (n := 256) none _ O r j).trans ?_
  refine Finset.sum_congr rfl fun h _ => ?_
  unfold term
  rw [← h1 h, ← Ideal.ofBits_zero_f32]
  rfl

end Cert.ReferenceIdeal.Value

end
-- ==== Proof.Value.Blocks.lean ====
/-
From blocks to whole arrays: when every device's blocks are cut from whole arrays, a layer on device `c` is
block `c` of the reference's layer, and so are the three layers together.
-/
module

public import proofs.«01_k».proof.Proof.Value.Mlp

@[expose] public section

set_option maxRecDepth 16384

noncomputable section

namespace Cert.KernelIdeal.Ring

open Cert.KernelIdeal Cert.KernelIdeal.Gen
open Idealize.ShloMosaic
open Idealize.ShloMosaic.ValueIdx
open Idealize.ShloMosaic.TcCoe

variable (m : (ℓ : Loc nD τ sig) → Buf (Elt Ideal) ℓ)

/-- Block `c` of an array cut by rows, and of one cut by columns. -/
abbrev rowsOf (c : Dev nD) (v : (⟨2, ![8192, 256]⟩ : Shape).Idx → EReal) : (⟨2, ![512, 256]⟩ : Shape).Idx → EReal :=
  Layout.block ⟨2, ![512, 256]⟩ ⟨2, ![8192, 256]⟩ 0 16 c v
abbrev colsOf (c : Dev nD) (v : (⟨2, ![256, 8192]⟩ : Shape).Idx → EReal) : (⟨2, ![256, 512]⟩ : Shape).Idx → EReal :=
  Layout.block ⟨2, ![256, 512]⟩ ⟨2, ![256, 8192]⟩ 1 16 c v

theorem rowsOf_apply (c : Dev nD) (v : (⟨2, ![8192, 256]⟩ : Shape).Idx → EReal) (r : Fin 512) (j : Fin 256) :
    rowsOf c v (ix2 r j) = v (ix2 (unit c r) j) :=
  congrArg v (Shape.idx_ext₂ rfl rfl)
theorem colsOf_apply (c : Dev nD) (v : (⟨2, ![256, 8192]⟩ : Shape).Idx → EReal) (k : Fin 256) (q : Fin 512) :
    colsOf c v (ix2 k q) = v (ix2 k (unit c q)) :=
  congrArg v (Shape.idx_ext₂ rfl rfl)

theorem winPart_apply (l : ℕ) (b : Bool) (d : Dev nD) (k q : Fin 256) :
    winPart m l b d (ix2 k q) = winV m l d (ix2 k (inHalf b q)) := by
  cases b
  · refine congrArg (winV m l d) (Shape.idx_ext₂ ?_ ?_) <;> simp [inHalf, winR]
  · refine congrArg (winV m l d) (Shape.idx_ext₂ ?_ ?_) <;> simp [inHalf, winR]
theorem woutPart_apply (l : ℕ) (b : Bool) (d : Dev nD) (q j : Fin 256) :
    woutPart m l b d (ix2 q j) = woutV m l d (ix2 (inHalf b q) j) := by
  cases b
  · refine congrArg (woutV m l d) (Shape.idx_ext₂ ?_ ?_) <;> simp [inHalf, woutR]
  · refine congrArg (woutV m l d) (Shape.idx_ext₂ ?_ ?_) <;> simp [inHalf, woutR]

section Layer
variable {m} {l : ℕ} {W : (⟨2, ![256, 8192]⟩ : Shape).Idx → EReal} {O : (⟨2, ![8192, 256]⟩ : Shape).Idx → EReal}
  (hW : ∀ d, winV m l d = colsOf d W) (hO : ∀ d, woutV m l d = rowsOf d O)
include hW hO

/-- The own term of a hidden unit is the whole array's term of it; -/
theorem term_own (X : (⟨2, ![512, 256]⟩ : Shape).Idx → EReal) (d : Dev nD) (r : Fin 512) (j : Fin 256) (q : Fin 512) :
    term X (winV m l d) (woutV m l d) r j q = term X W O r j (unit d q) := by
  unfold term
  rw [hW d, hO d, rowsOf_apply]
  simp only [colsOf_apply]

/-- and so is that of a unit in a half that was streamed. -/
theorem term_half (X : (⟨2, ![512, 256]⟩ : Shape).Idx → EReal) (b : Bool) (d : Dev nD) (r : Fin 512) (j q : Fin 256) :
    term X (winPart m l b d) (woutPart m l b d) r j q = term X W O r j (unit d (inHalf b q)) := by
  rw [← term_own hW hO X d r j (inHalf b q)]
  unfold term
  rw [woutPart_apply]
  simp only [winPart_apply]

/-- After the last hop the accumulator holds the sum over all hidden units. -/
theorem accV_apply (c : Dev nD) (X : Vec Ideal S512x256 .f32) (r : Fin 512) (j : Fin 256) :
    (accV m l c X 15 (ix2 r j) : EReal) = ∑ h, term X W O r j h := by
  have h := ring_sum c (fun d => ∑ q, term X W O r j (unit d (inHalf true q)))
    (fun d => ∑ q, term X W O r j (unit d (inHalf false q))) (fun s => accV m l c X s (ix2 r j))
    (by
      show (k0_pay9 X (winV m l c) (woutV m l c) (ix2 r j) : EReal) = _
      rw [own_apply, sum_halves]
      simp only [term_own hW hO])
    (fun s => by
      show (contrib (k0_pay8 X) (half 0 (WT m l false (src false (s + 1) c)))
        (contrib (k0_pay8 X) (half 0 (WT m l true (src true (s + 1) c))) (accV m l c X s) (half 1 (WT m l true (src true (s + 1) c))))
        (half 1 (WT m l false (src false (s + 1) c))) (ix2 r j) : EReal) = _
      unfold WT
      simp only [half_pairV_zero, half_pairV_one]
      rw [contrib_apply, contrib_apply]
      simp only [term_half hW hO])
  rw [sum_units]
  refine h.trans (Finset.sum_congr rfl fun d _ => ?_)
  exact (sum_halves fun q => term X W O r j (unit d q)).symm

/-- A layer on device `c`, from block `c` of the activations, gives block `c` of the reference's layer. -/
theorem accV_block (c : Dev nD) (X : (⟨2, ![8192, 256]⟩ : Shape).Idx → EReal) :
    accV m l c (rowsOf c X) 15 = rowsOf c (Cert.ReferenceIdeal.Value.layer X W O) := by
  funext i
  obtain ⟨r, j, rfl⟩ : ∃ (r : Fin 512) (j : Fin 256), i = ix2 r j := ⟨i 0, i 1, eq_ix2 i⟩
  refine (accV_apply hW hO c _ r j).trans ?_
  rw [rowsOf_apply, Cert.ReferenceIdeal.Value.layer_apply]
  refine Finset.sum_congr rfl fun h _ => ?_
  unfold term
  simp only [rowsOf_apply]

end Layer

/-- A copy between the layers changes nothing. -/
theorem pay2_eq (x : Vec Ideal S512x256 .f32) : k0_pay2 x = x := by
  unfold k0_pay2; simp only [shapeCast_self]
theorem pay55_eq (x : Vec Ideal S512x256 .f32) : k0_pay55 x = x := by
  unfold k0_pay55; simp only [shapeCast_self]

/-- The kernel's result on device `c` is block `c` of the reference's three layers. -/
theorem outV_block {X : (⟨2, ![8192, 256]⟩ : Shape).Idx → EReal} {W : ℕ → (⟨2, ![256, 8192]⟩ : Shape).Idx → EReal}
    {O : ℕ → (⟨2, ![8192, 256]⟩ : Shape).Idx → EReal} (hX : ∀ d, xV m d = rowsOf d X)
    (hW : ∀ l, l < 3 → ∀ d, winV m l d = colsOf d (W l)) (hO : ∀ l, l < 3 → ∀ d, woutV m l d = rowsOf d (O l)) (c : Dev nD) :
    outV m c = rowsOf c (Cert.ReferenceIdeal.Value.layer (Cert.ReferenceIdeal.Value.layer
      (Cert.ReferenceIdeal.Value.layer X (W 0) (O 0)) (W 1) (O 1)) (W 2) (O 2)) := by
  have h0 : actV m c 0 = rowsOf c X := (pay2_eq _).trans (hX c)
  have hs : ∀ (l : ℕ) (Y : (⟨2, ![8192, 256]⟩ : Shape).Idx → EReal), l < 3 → actV m c l = rowsOf c Y →
      accV m l c (actV m c l) 15 = rowsOf c (Cert.ReferenceIdeal.Value.layer Y (W l) (O l)) := fun l Y hl h => by
    rw [h]; exact accV_block (hW l hl) (hO l hl) c Y
  have h1 := (pay55_eq _).trans (hs 0 _ (by decide) h0)
  have h2 := (pay55_eq _).trans (hs 1 _ (by decide) h1)
  exact hs 2 _ (by decide) h2

end Cert.KernelIdeal.Ring

end
-- ==== Proof.Algebraic.lean ====
/-
The value claim: on every device the idealized kernel ends with its block of the reference's result.
-/
module

public import proofs.«01_k».proof.Defs
public import proofs.«01_k».proof.Proof.K.Result
public import proofs.«01_k».proof.Proof.Value.Blocks

@[expose] public section

noncomputable section

namespace Cert.Proof

open Idealize.ShloMosaic Idealize.ShloMosaic.TcCoe Idealize.SL.Sem
open Cert.KernelIdeal.Ring

/-- The weights of layer `l`, among the reference's arguments. -/
def winOf (m' : (ℓ : Loc Cert.ReferenceIdeal.nD Cert.ReferenceIdeal.τ Cert.ReferenceIdeal.sig) → Buf (Elt Ideal) ℓ) :
    ℕ → (⟨2, ![256, 8192]⟩ : Shape).Idx → EReal
  | 0 => m' (((0 : Dev Cert.ReferenceIdeal.nD).tc : Thread Cert.ReferenceIdeal.nD Cert.ReferenceIdeal.τ).loc Cert.ReferenceIdeal.main_arg1)
  | 1 => m' (((0 : Dev Cert.ReferenceIdeal.nD).tc : Thread Cert.ReferenceIdeal.nD Cert.ReferenceIdeal.τ).loc Cert.ReferenceIdeal.main_arg3)
  | _ => m' (((0 : Dev Cert.ReferenceIdeal.nD).tc : Thread Cert.ReferenceIdeal.nD Cert.ReferenceIdeal.τ).loc Cert.ReferenceIdeal.main_arg5)
def woutOf (m' : (ℓ : Loc Cert.ReferenceIdeal.nD Cert.ReferenceIdeal.τ Cert.ReferenceIdeal.sig) → Buf (Elt Ideal) ℓ) :
    ℕ → (⟨2, ![8192, 256]⟩ : Shape).Idx → EReal
  | 0 => m' (((0 : Dev Cert.ReferenceIdeal.nD).tc : Thread Cert.ReferenceIdeal.nD Cert.ReferenceIdeal.τ).loc Cert.ReferenceIdeal.main_arg2)
  | 1 => m' (((0 : Dev Cert.ReferenceIdeal.nD).tc : Thread Cert.ReferenceIdeal.nD Cert.ReferenceIdeal.τ).loc Cert.ReferenceIdeal.main_arg4)
  | _ => m' (((0 : Dev Cert.ReferenceIdeal.nD).tc : Thread Cert.ReferenceIdeal.nD Cert.ReferenceIdeal.τ).loc Cert.ReferenceIdeal.main_arg6)

/-- Both run, and device `c`'s result is block `c` of the reference's. -/
theorem algebraic : Cert.algebraic_KernelIdeal_ReferenceIdeal (hKernelIdeal := Cert.KernelIdeal.Gen.facts)
    (hReferenceIdeal := Cert.ReferenceIdeal.Gen.facts) := by
  intro m g m' g' _ h
  have hX : ∀ d, xV m d = rowsOf d (m' (((0 : Dev Cert.ReferenceIdeal.nD).tc : Thread Cert.ReferenceIdeal.nD
      Cert.ReferenceIdeal.τ).loc Cert.ReferenceIdeal.main_arg0)) := fun d => (xV_eq m d).trans (h d).1
  have hW : ∀ l, l < 3 → ∀ d, winV m l d = colsOf d (winOf m' l) := fun l hl d => match l, hl with
    | 0, _ => (winV0_eq m d).trans (h d).2.1
    | 1, _ => (winV1_eq m d).trans (h d).2.2.2.1
    | 2, _ => (winV2_eq m d).trans (h d).2.2.2.2.2.1
  have hO : ∀ l, l < 3 → ∀ d, woutV m l d = rowsOf d (woutOf m' l) := fun l hl d => match l, hl with
    | 0, _ => (woutV0_eq m d).trans (h d).2.2.1
    | 1, _ => (woutV1_eq m d).trans (h d).2.2.2.2.1
    | 2, _ => (woutV2_eq m d).trans (h d).2.2.2.2.2.2
  exact ⟨_, (θ_run Cert.KernelIdeal.defs _ _).mono (fun r hr c => ⟨(hr.1 c).1.trans (outV_block m hX hW hO c), (hr.1 c).2⟩)
      (run_result (F := Ideal) m g),
    (θ_run Cert.ReferenceIdeal.defs _ _).mono (fun r hr => hr 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Result
public import proofs.«01_k».proof.Proof.KB.Result
public import proofs.«01_k».proof.Proof.Algebraic
public import Idealize.ShloMosaic.Adequacy
public import Idealize.ShloMosaic.Init

@[expose] public section

noncomputable section

namespace Cert.Proof

open Idealize.ShloMosaic Idealize.SL.Sem

/-- The kernel as printed: the run of `Proof/KB/Result.lean` with the value of the result dropped. -/
theorem frame_kernel : Cert.quiescent_Kernel (hKernel := Cert.Kernel.Gen.facts) := by
  intro m g _
  exact (θ_run Cert.Kernel.defs _ _).mono (fun _ h => ⟨fun c => (h.1 c).2, h.2⟩) (Cert.Kernel.Ring.run_result (F := Bits) m g)

/-- The idealized kernel: the run of `Proof/K/Result.lean` with the value of the result dropped. -/
theorem frame_kernelIdeal : Cert.quiescent_KernelIdeal (hKernelIdeal := Cert.KernelIdeal.Gen.facts) := by
  intro m g _
  exact (θ_run Cert.KernelIdeal.defs _ _).mono (fun _ h => ⟨fun c => (h.1 c).2, h.2⟩) (Cert.KernelIdeal.Ring.run_result (F := Ideal) m g)

/-- The reference has no semaphores, and its arguments are only read. -/
theorem frame_reference : Cert.quiescent_ReferenceIdeal (hReferenceIdeal := Cert.ReferenceIdeal.Gen.facts) := by
  intro m g _
  exact (θ_run Cert.ReferenceIdeal.defs _ _).mono (fun r h => ⟨fun c => (h c).2, Idealize.ShloMosaic.sem_eq_zero_of_no_sems (by decide) r.2⟩)
    (Cert.ReferenceIdeal.Value.run (F := Ideal) m g)

/-- The claims together. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
